-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S64x1x4096 : Shape := ⟨3, ![64, 1, 4096]⟩
abbrev S_ : Shape := ⟨0, ![]⟩
abbrev S14336x4096 : Shape := ⟨2, ![14336, 4096]⟩
abbrev S14336 : Shape := ⟨1, ![14336]⟩

class Facts : Prop where
  bcast_S_S14336 : S_.BroadcastsInDim S14336 (![] : Fin 0 → Fin S14336.rank)

variable [Facts]

def fn {F : FTy → Type} [FloatOps F] (main_arg0 : IVec S64x1x4096 8) (main_arg1 : IVec S_ 32) (main_arg2 : IVec S14336x4096 8) (main_arg3 : IVec S14336 32) (main_arg4 : IVec S14336 32) (main_arg5 : IVec S14336 32) (main_arg6 : IVec S_ 32) (main_arg7 : IVec S_ 32) (main_arg8 : IVec S_ 32) : IVec S14336 1 :=
  let main_c : IVec S_ 32 := constantI S_ 32 4294934655#32
  let main_v0 : IVec S_ 1 := cmpi .sge main_arg1 main_c
  let main_c_0 : IVec S_ 32 := constantI S_ 32 32639#32
  let main_v1 : IVec S_ 1 := cmpi .sle main_arg1 main_c_0
  let main_v2 : IVec S_ 1 := andi main_v0 main_v1
  let main_c_1 : IVec S_ 32 := constantI S_ 32 0#32
  let main_v3 : IVec S14336 32 := broadcastInDim S14336 ![] bcast_S_S14336 main_c_1
  let main_v4 : IVec S14336 1 := cmpi .sge main_arg4 main_v3
  let main_v5 : IVec S14336 1 := broadcastInDim S14336 ![] bcast_S_S14336 main_v2
  let main_v6 : IVec S14336 1 := andi main_v5 main_v4
  main_v6
-- ==== Kernel.lean ====
abbrev S64x1x4096 : Shape := ⟨3, ![64, 1, 4096]⟩
abbrev S_ : Shape := ⟨0, ![]⟩
abbrev S14336x4096 : Shape := ⟨2, ![14336, 4096]⟩
abbrev S14336 : Shape := ⟨1, ![14336]⟩
abbrev S1 : Shape := ⟨1, ![1]⟩
abbrev S4 : Shape := ⟨1, ![4]⟩
abbrev S64x4096 : Shape := ⟨2, ![64, 4096]⟩
abbrev S1x14336 : Shape := ⟨2, ![1, 14336]⟩
abbrev S64x14336 : Shape := ⟨2, ![64, 14336]⟩
abbrev S512x4096 : Shape := ⟨2, ![512, 4096]⟩
abbrev S1x512 : Shape := ⟨2, ![1, 512]⟩
abbrev S64x512 : Shape := ⟨2, ![64, 512]⟩
abbrev S512x512 : Shape := ⟨2, ![512, 512]⟩
abbrev S64x1x14336 : Shape := ⟨3, ![64, 1, 14336]⟩

abbrev nBuf : Space → Nat
  | .hbm => 20
  | .vmem => 11
  | .smem => 1
  | _ => 0

abbrev bufTy : (tb : Table) → Fin (tcTables nBuf tb) → BufTy
  | .hbm, ⟨0, _⟩ => ⟨S64x1x4096, .i8⟩
  | .hbm, ⟨1, _⟩ => ⟨S_, .i32⟩
  | .hbm, ⟨2, _⟩ => ⟨S14336x4096, .i8⟩
  | .hbm, ⟨3, _⟩ => ⟨S14336, .i32⟩
  | .hbm, ⟨4, _⟩ => ⟨S14336, .i32⟩
  | .hbm, ⟨5, _⟩ => ⟨S14336, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S4, .i32⟩
  | .hbm, ⟨14, _⟩ => ⟨S64x4096, .i8⟩
  | .hbm, ⟨15, _⟩ => ⟨S1x14336, .i32⟩
  | .hbm, ⟨16, _⟩ => ⟨S1x14336, .i32⟩
  | .hbm, ⟨17, _⟩ => ⟨S1x14336, .i32⟩
  | .hbm, ⟨18, _⟩ => ⟨S64x14336, .i8⟩
  | .hbm, ⟨19, _⟩ => ⟨S64x1x14336, .i8⟩
  | .local _ .vmem, ⟨0, _⟩ => ⟨S64x4096, .i8⟩
  | .local _ .vmem, ⟨1, _⟩ => ⟨S512x4096, .i8⟩
  | .local _ .vmem, ⟨2, _⟩ => ⟨S512x4096, .i8⟩
  | .local _ .vmem, ⟨3, _⟩ => ⟨S1x512, .i32⟩
  | .local _ .vmem, ⟨4, _⟩ => ⟨S1x512, .i32⟩
  | .local _ .vmem, ⟨5, _⟩ => ⟨S1x512, .i32⟩
  | .local _ .vmem, ⟨6, _⟩ => ⟨S1x512, .i32⟩
  | .local _ .vmem, ⟨7, _⟩ => ⟨S1x512, .i32⟩
  | .local _ .vmem, ⟨8, _⟩ => ⟨S1x512, .i32⟩
  | .local _ .vmem, ⟨9, _⟩ => ⟨S64x512, .i8⟩
  | .local _ .vmem, ⟨10, _⟩ => ⟨S64x512, .i8⟩
  | .local _ .smem, ⟨0, _⟩ => ⟨S4, .i32⟩
  | _, _ => ⟨S64x1x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![28], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x4096 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S64x1x4096 : Shape := ⟨3, ![64, 1, 4096]⟩
abbrev S_ : Shape := ⟨0, ![]⟩
abbrev S14336x4096 : Shape := ⟨2, ![14336, 4096]⟩
abbrev S14336 : Shape := ⟨1, ![14336]⟩
abbrev S64x1x1x4096 : Shape := ⟨4, ![64, 1, 1, 4096]⟩
abbrev S1x1x14336x4096 : Shape := ⟨4, ![1, 1, 14336, 4096]⟩
abbrev S64x1x14336x4096 : Shape := ⟨4, ![64, 1, 14336, 4096]⟩
abbrev S64x1x14336 : Shape := ⟨3, ![64, 1, 14336]⟩
abbrev S1x1x14336 : Shape := ⟨3, ![1, 1, 14336]⟩

abbrev nBuf : Space → Nat
  | .hbm => 167
  | .vmem => 0
  | .smem => 0
  | _ => 0

abbrev hbmTy0_0 (i : Nat) : BufTy := match i % 128 with
  | 0 => ⟨S64x1x4096, .i8⟩
  | 1 => ⟨S_, .i32⟩
  | 2 => ⟨S14336x4096, .i8⟩
  | 3 => ⟨S14336, .i32⟩
  | 4 => ⟨S14336, .i32⟩
  | 5 => ⟨S14336, .i32⟩
  | 6 => ⟨S_, .i32⟩
  | 7 => ⟨S_, .i32⟩
  | 8 => ⟨S_, .i32⟩
  | 9 => ⟨S64x1x4096, .i32⟩
  | 10 => ⟨S64x1x1x4096, .i32⟩
  | 11 => ⟨S14336x4096, .i32⟩
  | 12 => ⟨S1x1x14336x4096, .i32⟩
  | 13 => ⟨S64x1x14336x4096, .i32⟩
  | 14 => ⟨S64x1x14336x4096, .i32⟩
  | 15 => ⟨S64x1x14336x4096, .i32⟩
  | 16 => ⟨S_, .i32⟩
  | 17 => ⟨S64x1x14336, .i32⟩
  | 18 => ⟨S14336x4096, .i32⟩
  | 19 => ⟨S_, .i32⟩
  | 20 => ⟨S14336, .i32⟩
  | 21 => ⟨S14336, .i32⟩
  | 22 => ⟨S14336, .i32⟩
  | 23 => ⟨S1x1x14336, .i32⟩
  | 24 => ⟨S64x1x14336, .i32⟩
  | 25 => ⟨S64x1x14336, .i32⟩
  | 26 => ⟨S1x1x14336, .i32⟩
  | 27 => ⟨S64x1x14336, .i32⟩
  | 28 => ⟨S64x1x14336, .i32⟩
  | 29 => ⟨S64x1x14336, .i32⟩
  | 30 => ⟨S64x1x14336, .i32⟩
  | 31 => ⟨S14336, .i32⟩
  | 32 => ⟨S_, .i32⟩
  | 33 => ⟨S64x1x14336, .i32⟩
  | 34 => ⟨S64x1x14336, .i32⟩
  | 35 => ⟨S_, .i32⟩
  | 36 => ⟨S64x1x14336, .i32⟩
  | 37 => ⟨S64x1x14336, .i32⟩
  | 38 => ⟨S_, .i32⟩
  | 39 => ⟨S14336, .i32⟩
  | 40 => ⟨S14336, .i32⟩
  | 41 => ⟨S_, .i32⟩
  | 42 => ⟨S14336, .i32⟩
  | 43 => ⟨S14336, .i32⟩
  | 44 => ⟨S1x1x14336, .i32⟩
  | 45 => ⟨S64x1x14336, .i32⟩
  | 46 => ⟨S64x1x14336, .i32⟩
  | 47 => ⟨S1x1x14336, .i32⟩
  | 48 => ⟨S64x1x14336, .i32⟩
  | 49 => ⟨S64x1x14336, .i32⟩
  | 50 => ⟨S1x1x14336, .i32⟩
  | 51 => ⟨S64x1x14336, .i32⟩
  | 52 => ⟨S64x1x14336, .i32⟩
  | 53 => ⟨S1x1x14336, .i32⟩
  | 54 => ⟨S64x1x14336, .i32⟩
  | 55 => ⟨S64x1x14336, .i32⟩
  | 56 => ⟨S64x1x14336, .i32⟩
  | 57 => ⟨S64x1x14336, .i1⟩
  | 58 => ⟨S64x1x14336, .i32⟩
  | 59 => ⟨S_, .i32⟩
  | 60 => ⟨S64x1x14336, .i32⟩
  | 61 => ⟨S64x1x14336, .i32⟩
  | 62 => ⟨S64x1x14336, .i32⟩
  | 63 => ⟨S64x1x14336, .i1⟩
  | 64 => ⟨S64x1x14336, .i32⟩
  | 65 => ⟨S_, .i32⟩
  | 66 => ⟨S64x1x14336, .i32⟩
  | 67 => ⟨S64x1x14336, .i32⟩
  | 68 => ⟨S64x1x14336, .i32⟩
  | 69 => ⟨S_, .i32⟩
  | 70 => ⟨S64x1x14336, .i32⟩
  | 71 => ⟨S64x1x14336, .i32⟩
  | 72 => ⟨S64x1x14336, .i32⟩
  | 73 => ⟨S64x1x14336, .i32⟩
  | 74 => ⟨S_, .i32⟩
  | 75 => ⟨S14336, .i32⟩
  | 76 => ⟨S14336, .i32⟩
  | 77 => ⟨S_, .i32⟩
  | 78 => ⟨S14336, .i32⟩
  | 79 => ⟨S14336, .i1⟩
  | 80 => ⟨S_, .i32⟩
  | 81 => ⟨S_, .i32⟩
  | 82 => ⟨S_, .i32⟩
  | 83 => ⟨S14336, .i32⟩
  | 84 => ⟨S14336, .i32⟩
  | 85 => ⟨S_, .i32⟩
  | 86 => ⟨S14336, .i32⟩
  | 87 => ⟨S14336, .i32⟩
  | 88 => ⟨S14336, .i32⟩
  | 89 => ⟨S_, .i32⟩
  | 90 => ⟨S14336, .i32⟩
  | 91 => ⟨S14336, .i32⟩
  | 92 => ⟨S_, .i32⟩
  | 93 => ⟨S_, .i32⟩
  | 94 => ⟨S_, .i32⟩
  | 95 => ⟨S14336, .i32⟩
  | 96 => ⟨S14336, .i32⟩
  | 97 => ⟨S_, .i32⟩
  | 98 => ⟨S14336, .i32⟩
  | 99 => ⟨S14336, .i32⟩
  | 100 => ⟨S14336, .i32⟩
  | 101 => ⟨S_, .i32⟩
  | 102 => ⟨S14336, .i32⟩
  | 103 => ⟨S14336, .i32⟩
  | 104 => ⟨S1x1x14336, .i32⟩
  | 105 => ⟨S64x1x14336, .i32⟩
  | 106 => ⟨S64x1x14336, .i32⟩
  | 107 => ⟨S1x1x14336, .i32⟩
  | 108 => ⟨S64x1x14336, .i32⟩
  | 109 => ⟨S64x1x14336, .i32⟩
  | 110 => ⟨S64x1x14336, .i32⟩
  | 111 => ⟨S1x1x14336, .i32⟩
  | 112 => ⟨S64x1x14336, .i32⟩
  | 113 => ⟨S64x1x14336, .i32⟩
  | 114 => ⟨S_, .i32⟩
  | 115 => ⟨S14336, .i32⟩
  | 116 => ⟨S14336, .i32⟩
  | 117 => ⟨S_, .i32⟩
  | 118 => ⟨S14336, .i32⟩
  | 119 => ⟨S14336, .i32⟩
  | 120 => ⟨S1x1x14336, .i32⟩
  | 121 => ⟨S64x1x14336, .i32⟩
  | 122 => ⟨S64x1x14336, .i32⟩
  | 123 => ⟨S_, .i32⟩
  | 124 => ⟨S64x1x14336, .i32⟩
  | 125 => ⟨S64x1x14336, .i1⟩
  | 126 => ⟨S_, .i32⟩
  | 127 => ⟨S64x1x14336, .i32⟩
  | _ => ⟨S64x1x4096, .i8⟩

abbrev hbmTy0_1 (i : Nat) : BufTy := match i % 128 with
  | 0 => ⟨S64x1x14336, .i1⟩
  | 1 => ⟨S_, .i32⟩
  | 2 => ⟨S14336, .i32⟩
  | 3 => ⟨S14336, .i32⟩
  | 4 => ⟨S_, .i32⟩
  | 5 => ⟨S14336, .i32⟩
  | 6 => ⟨S14336, .i32⟩
  | 7 => ⟨S1x1x14336, .i32⟩
  | 8 => ⟨S64x1x14336, .i32⟩
  | 9 => ⟨S64x1x14336, .i32⟩
  | 10 => ⟨S_, .i32⟩
  | 11 => ⟨S64x1x14336, .i32⟩
  | 12 => ⟨S64x1x14336, .i1⟩
  | 13 => ⟨S64x1x14336, .i1⟩
  | 14 => ⟨S64x1x14336, .i1⟩
  | 15 => ⟨S64x1x14336, .i32⟩
  | 16 => ⟨S64x1x14336, .i32⟩
  | 17 => ⟨S64x1x14336, .i1⟩
  | 18 => ⟨S64x1x14336, .i1⟩
  | 19 => ⟨S64x1x14336, .i32⟩
  | 20 => ⟨S_, .i32⟩
  | 21 => ⟨S64x1x14336, .i32⟩
  | 22 => ⟨S64x1x14336, .i1⟩
  | 23 => ⟨S64x1x14336, .i32⟩
  | 24 => ⟨S64x1x14336, .i32⟩
  | 25 => ⟨S64x1x14336, .i32⟩
  | 26 => ⟨S_, .i32⟩
  | 27 => ⟨S64x1x14336, .i32⟩
  | 28 => ⟨S64x1x14336, .i32⟩
  | 29 => ⟨S_, .i32⟩
  | 30 => ⟨S64x1x14336, .i32⟩
  | 31 => ⟨S64x1x14336, .i32⟩
  | 32 => ⟨S64x1x14336, .i32⟩
  | 33 => ⟨S64x1x14336, .i32⟩
  | 34 => ⟨S64x1x14336, .i32⟩
  | 35 => ⟨S64x1x14336, .i32⟩
  | 36 => ⟨S64x1x14336, .i32⟩
  | 37 => ⟨S64x1x14336, .i32⟩
  | 38 => ⟨S64x1x14336, .i8⟩
  | _ => ⟨S64x1x4096, .i8⟩

abbrev hbmTy (i : Nat) : BufTy := match i / 128 with
  | 0 => hbmTy0_0 i
  | 1 => hbmTy0_1 i
  | _ => ⟨S64x1x4096, .i8⟩

abbrev bufTy : (tb : Table) → Fin (tcTables nBuf tb) → BufTy
  | .hbm, ⟨i, _⟩ => hbmTy i
  | _, _ => ⟨S64x1x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_8 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_c_11 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_c_14 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v64 : Ref sig .tc := ⟨.hbm, 99, rfl⟩
abbrev main_v65 : Ref sig .tc := ⟨.hbm, 100, rfl⟩
abbrev main_c_15 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_16 : Ref sig .tc := ⟨.hbm, 114, rfl⟩
abbrev main_v78 : Ref sig .tc := ⟨.hbm, 115, rfl⟩
abbrev main_v79 : Ref sig .tc := ⟨.hbm, 116, rfl⟩
abbrev main_c_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_18 : Ref sig .tc := ⟨.hbm, 123, rfl⟩
abbrev main_v85 : Ref sig .tc := ⟨.hbm, 124, rfl⟩
abbrev main_v86 : Ref sig .tc := ⟨.hbm, 125, rfl⟩
abbrev main_c_19 : Ref sig .tc := ⟨.hbm, 126, rfl⟩
abbrev main_v87 : Ref sig .tc := ⟨.hbm, 127, rfl⟩
abbrev main_v88 : Ref sig .tc := ⟨.hbm, 128, rfl⟩
abbrev main_c_20 : Ref sig .tc := ⟨.hbm, 129, rfl⟩
abbrev main_v89 : Ref sig .tc := ⟨.hbm, 130, rfl⟩
abbrev main_v90 : Ref sig .tc := ⟨.hbm, 131, rfl⟩
abbrev main_c_21 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_22 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_call2_v0 : Ref sig .tc := ⟨.hbm, 142, rfl⟩
abbrev main_v99 : Ref sig .tc := ⟨.hbm, 143, rfl⟩
abbrev main_v100 : Ref sig .tc := ⟨.hbm, 144, rfl⟩
abbrev main_call3_v0 : Ref sig .tc := ⟨.hbm, 145, rfl⟩
abbrev main_v101 : Ref sig .tc := ⟨.hbm, 146, rfl⟩
abbrev main_v102 : Ref sig .tc := ⟨.hbm, 147, rfl⟩
abbrev main_c_23 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_24 : Ref sig .tc := ⟨.hbm, 154, rfl⟩
abbrev main_v108 : Ref sig .tc := ⟨.hbm, 155, rfl⟩
abbrev main_v109 : Ref sig .tc := ⟨.hbm, 156, rfl⟩
abbrev main_c_25 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_call5_v0 : Ref sig .tc := ⟨.hbm, 162, rfl⟩
abbrev main_call5_v1 : Ref sig .tc := ⟨.hbm, 163, rfl⟩
abbrev main_call5_v2 : Ref sig .tc := ⟨.hbm, 164, rfl⟩
abbrev main_v114 : Ref sig .tc := ⟨.hbm, 165, rfl⟩
abbrev main_v115 : Ref sig .tc := ⟨.hbm, 166, rfl⟩

abbrev nD : Nat := 1
abbrev τ : Topo := Topo.v7x

variable {F : FTy → Type} [FloatOps F]
-- ==== Proof.Requant.lean ====
module

public import Idealize.ShloMosaic.PureOps.Vector
public import Mathlib.Tactic.Ring
public import Mathlib.Tactic.IntervalCases
public import Mathlib.Tactic.Linarith

@[expose] public section

/-! # Requantisation of one accumulator value

The kernel multiplies the 32-bit accumulator by the 32-bit multiplier as a signed product of 16-bit
limbs and shifts the two words of the product; the reference multiplies the magnitude as an unsigned
product, shifts it, and corrects a negative value by whether a remainder was dropped. Both are the
low 32 bits of `⌊acc · mult / 2 ^ s⌋` when the multiplier is not negative. -/

namespace Cert.Requant

open Idealize.ShloMosaic

/-! ## Words and integers -/

/-- A word is the word of its signed value. -/
theorem ofInt_toInt' (x : BitVec 32) : BitVec.ofInt 32 x.toInt = x := BitVec.ofInt_toInt

/-- The signed value of a word of an integer in range is that integer. -/
theorem toInt_ofInt_of_range {n : ℤ} (h₁ : -2147483648 ≤ n) (h₂ : n < 2147483648) :
    (BitVec.ofInt 32 n).toInt = n := by
  rw [BitVec.toInt_ofInt]
  rw [Int.bmod_eq_of_le] <;> norm_num <;> omega

/-- The unsigned value of a word of a natural number in range is that number. -/
theorem toNat_ofInt_of_range {n : ℤ} (h₁ : 0 ≤ n) (h₂ : n < 4294967296) :
    ((BitVec.ofInt 32 n).toNat : ℤ) = n := by
  rw [BitVec.toNat_ofInt]
  norm_num
  omega

/-- An arithmetic right shift is division by a power of two rounded down. -/
theorem sshiftRight_eq (x : BitVec 32) (n : ℕ) :
    x.sshiftRight n = BitVec.ofInt 32 (x.toInt / 2 ^ n) := by
  apply BitVec.eq_of_toInt_eq
  have h := x.toInt_lt
  have h' := x.le_toInt
  norm_num at h h'
  have hp : (0 : ℤ) < 2 ^ n := by positivity
  have hle : x.toInt / 2 ^ n < 2147483648 := by
    rw [Int.ediv_lt_iff_lt_mul hp]; nlinarith [Int.add_one_le_iff.2 hp]
  have hge : -2147483648 ≤ x.toInt / 2 ^ n := by
    rw [Int.le_ediv_iff_mul_le hp]; nlinarith [Int.add_one_le_iff.2 hp]
  rw [toInt_ofInt_of_range hge hle, BitVec.toInt_sshiftRight, Int.shiftRight_eq_div_pow]
  norm_num

/-- A logical right shift is division of the unsigned value by a power of two. -/
theorem ushiftRight_eq (x : BitVec 32) (n : ℕ) :
    x >>> n = BitVec.ofInt 32 ((x.toNat : ℤ) / 2 ^ n) := by
  apply BitVec.eq_of_toNat_eq
  have h : x.toNat / 2 ^ n < 2 ^ 32 := lt_of_le_of_lt (Nat.div_le_self _ _) x.isLt
  have hc : ((x.toNat : ℤ) / 2 ^ n) = ((x.toNat / 2 ^ n : ℕ) : ℤ) := by push_cast; rfl
  rw [BitVec.toNat_ushiftRight, Nat.shiftRight_eq_div_pow, hc, BitVec.toNat_ofInt]
  norm_cast
  exact (Nat.mod_eq_of_lt h).symm

/-- Masking with `2 ^ n - 1` keeps the remainder of the unsigned value. -/
theorem toNat_and_mask (x : BitVec 32) (y : BitVec 32) (n : ℕ) (hy : y.toNat = 2 ^ n - 1) :
    (x &&& y).toNat = x.toNat % 2 ^ n := by
  rw [BitVec.toNat_and, hy, Nat.and_two_pow_sub_one_eq_mod]

/-- The low limb: the remainder of the signed value by `2 ^ 16`. -/
theorem and_limb (x : BitVec 32) : x &&& 65535#32 = BitVec.ofInt 32 (x.toInt % 65536) := by
  apply BitVec.eq_of_toNat_eq
  have h := toNat_and_mask x 65535#32 16 (by decide)
  have h2 : ((x &&& 65535#32).toNat : ℤ) = x.toInt % 65536 := by
    rw [h, BitVec.toInt_eq_toNat_cond]
    have := x.isLt
    split <;> omega
  have h3 := toNat_ofInt_of_range (n := x.toInt % 65536) (by omega) (by omega)
  omega

/-- A left shift multiplies by a power of two. -/
theorem shiftLeft_eq (n : ℤ) (k : ℕ) :
    BitVec.ofInt 32 n <<< k = BitVec.ofInt 32 (n * 2 ^ k) := by
  apply BitVec.eq_of_toNat_eq
  have h1 : ((BitVec.ofInt 32 n <<< k).toNat : ℤ) = n * 2 ^ k % 2 ^ 32 := by
    rw [BitVec.toNat_shiftLeft, Nat.shiftLeft_eq, BitVec.toNat_ofInt]
    push_cast
    rw [Int.toNat_of_nonneg (Int.emod_nonneg _ (by norm_num))]
    rw [Int.mul_emod, Int.emod_emod_of_dvd _ (dvd_refl _), ← Int.mul_emod]
  have h2 : ((BitVec.ofInt 32 (n * 2 ^ k)).toNat : ℤ) = n * 2 ^ k % 2 ^ 32 := by
    rw [BitVec.toNat_ofInt]
    push_cast
    rw [Int.toNat_of_nonneg (Int.emod_nonneg _ (by norm_num))]
  omega

/-- The two words of a wide product, shifted right together by between 1 and 31 bits. -/
theorem funnel (X : ℤ) (y : BitVec 32) {s : ℕ} (h1 : 1 ≤ s) (h31 : s ≤ 31) :
    (BitVec.ofInt 32 X <<< (32 - s)) ||| (y >>> s)
      = BitVec.ofInt 32 ((X * 4294967296 + y.toNat) / 2 ^ s) := by
  have hdisj : (BitVec.ofInt 32 X <<< (32 - s)) &&& (y >>> s) = 0#32 := by
    ext i hi
    simp only [BitVec.getElem_and, BitVec.getElem_shiftLeft, BitVec.getElem_ushiftRight,
      BitVec.getElem_zero]
    by_cases hs : i < 32 - s
    · simp [hs]
    · simp only [hs, decide_false, Bool.not_false, Bool.true_and, Bool.and_eq_false_imp]
      intro _
      exact BitVec.getLsbD_of_ge _ _ (by omega)
  rw [← BitVec.add_eq_or_of_and_eq_zero _ _ hdisj, shiftLeft_eq, ushiftRight_eq, ← BitVec.ofInt_add]
  congr 1
  have hsplit : (4294967296 : ℤ) = 2 ^ (32 - s) * 2 ^ s := by
    rw [← pow_add, Nat.sub_add_cancel (by omega)]; norm_num
  rw [hsplit, ← mul_assoc, Int.add_comm (X * _ * _), Int.add_mul_ediv_right _ _ (by positivity)]
  ring

/-! ## The shifts as the programs take them -/

/-- A logical right shift by less than the width. -/
theorem shrui_lt (u : ArithUnit) (x y : BitVec 32) (h : y.toNat < 32) :
    IntOp.shrui u x y = x >>> y.toNat := by simp [IntOp.shrui, h]

/-- An arithmetic right shift by less than the width. -/
theorem shrsi_lt (u : ArithUnit) (x y : BitVec 32) (h : y.toNat < 32) :
    IntOp.shrsi u x y = x.sshiftRight y.toNat := by simp [IntOp.shrsi, h, BitVec.sshiftRight']

/-- A left shift by less than the width. -/
theorem shli_lt (u : ArithUnit) (x y : BitVec 32) (h : y.toNat < 32) :
    IntOp.shli u x y = x <<< y.toNat := by simp [IntOp.shli, h]

/-! ## The kernel's product -/

/-- The middle sum of the kernel's limb product. -/
def kMid (a m : BitVec 32) : BitVec 32 :=
  IntOp.addi (IntOp.muli (IntOp.andi a 65535#32) (IntOp.shrsi .vector m 16#32))
    (IntOp.shrui .vector (IntOp.muli (IntOp.andi a 65535#32) (IntOp.andi m 65535#32)) 16#32)

/-- The kernel's high word of the product. -/
def kHi (a m : BitVec 32) : BitVec 32 :=
  IntOp.addi
    (IntOp.addi (IntOp.muli (IntOp.shrsi .vector a 16#32) (IntOp.shrsi .vector m 16#32))
      (IntOp.shrsi .vector (kMid a m) 16#32))
    (IntOp.shrsi .vector
      (IntOp.addi (IntOp.muli (IntOp.shrsi .vector a 16#32) (IntOp.andi m 65535#32))
        (IntOp.andi (kMid a m) 65535#32)) 16#32)

/-- Under a multiplier that is not negative, the kernel's high word is that of the exact product. -/
theorem kHi_eq (a m : BitVec 32) (hm : 0 ≤ m.toInt) :
    kHi a m = BitVec.ofInt 32 (a.toInt * m.toInt / 4294967296) := by
  have ha1 := a.toInt_lt
  have ha2 := a.le_toInt
  have hm1 := m.toInt_lt
  norm_num at ha1 ha2 hm1
  have h16 : (16#32).toNat = 16 := by decide
  unfold kHi kMid
  simp only [shrsi_lt _ _ 16#32 (by decide), shrui_lt _ _ 16#32 (by decide), h16,
    IntOp.addi, IntOp.muli, IntOp.andi, and_limb a, and_limb m, sshiftRight_eq a, sshiftRight_eq m,
    ← BitVec.ofInt_mul]
  norm_num
  generalize hA : a.toInt = A at *
  generalize hM : m.toInt = M at *
  obtain ⟨al, hal⟩ : ∃ z, z = A % 65536 := ⟨_, rfl⟩
  obtain ⟨ah, hah⟩ : ∃ z, z = A / 65536 := ⟨_, rfl⟩
  obtain ⟨ml, hml⟩ : ∃ z, z = M % 65536 := ⟨_, rfl⟩
  obtain ⟨mh, hmh⟩ : ∃ z, z = M / 65536 := ⟨_, rfl⟩
  rw [← hal, ← hah, ← hml, ← hmh]
  have hal0 : 0 ≤ al ∧ al ≤ 65535 := by omega
  have hml0 : 0 ≤ ml ∧ ml ≤ 65535 := by omega
  have hah0 : -32768 ≤ ah ∧ ah ≤ 32767 := by omega
  have hmh0 : 0 ≤ mh ∧ mh ≤ 32767 := by omega
  have hA' : A = ah * 65536 + al := by omega
  have hM' : M = mh * 65536 + ml := by omega
  have hP : A * M = (ah * mh) * 4294967296 + (ah * ml + al * mh) * 65536 + al * ml := by
    rw [hA', hM']; ring
  have hll : 0 ≤ al * ml ∧ al * ml ≤ 4294836225 := by constructor <;> nlinarith
  have hlh : 0 ≤ al * mh ∧ al * mh ≤ 2147385345 := by constructor <;> nlinarith
  have hhl : -2147450880 ≤ ah * ml ∧ ah * ml ≤ 2147385345 := by constructor <;> nlinarith
  rw [hP]
  clear hP hA' hM'
  generalize al * ml = ll at *
  generalize al * mh = lh at *
  generalize ah * ml = hl at *
  generalize ah * mh = hh at *
  rw [ushiftRight_eq, toNat_ofInt_of_range hll.1 (by omega), ← BitVec.ofInt_add, and_limb,
    sshiftRight_eq, toInt_ofInt_of_range (by norm_num; omega) (by norm_num; omega),
    ← BitVec.ofInt_add, ← BitVec.ofInt_add,
    sshiftRight_eq, toInt_ofInt_of_range (by norm_num; omega) (by norm_num; omega),
    ← BitVec.ofInt_add]
  congr 1
  norm_num
  omega

/-- The low word of the product, read unsigned. -/
theorem lo_eq (a m : BitVec 32) : ((a * m).toNat : ℤ) = a.toInt * m.toInt % 4294967296 := by
  have h : a * m = BitVec.ofInt 32 (a.toInt * m.toInt) := by
    rw [BitVec.ofInt_mul, ofInt_toInt', ofInt_toInt']
  rw [h, BitVec.toNat_ofInt]
  norm_num
  omega

/-! ## The reference's product -/

/-- The cross sum of the reference's limb product. -/
def rMid (a m : BitVec 32) : BitVec 32 :=
  IntOp.addi (IntOp.muli (IntOp.andi a 65535#32) (IntOp.shrui .host m 16#32))
    (IntOp.muli (IntOp.shrui .host a 16#32) (IntOp.andi m 65535#32))

/-- The reference's low word. -/
def rLo (a m : BitVec 32) : BitVec 32 :=
  IntOp.addi (IntOp.muli (IntOp.andi a 65535#32) (IntOp.andi m 65535#32))
    (IntOp.shli .host (rMid a m) 16#32)

/-- The reference's high word. -/
def rHi (a m : BitVec 32) : BitVec 32 :=
  IntOp.addi
    (IntOp.addi
      (IntOp.addi (IntOp.muli (IntOp.shrui .host a 16#32) (IntOp.shrui .host m 16#32))
        (IntOp.shrui .host (rMid a m) 16#32))
      (IntOp.shli .host
        ((IntOp.cmpi .ult (rMid a m)
          (IntOp.muli (IntOp.andi a 65535#32) (IntOp.shrui .host m 16#32))).setWidth 32) 16#32))
    ((IntOp.cmpi .ult (rLo a m)
      (IntOp.muli (IntOp.andi a 65535#32) (IntOp.andi m 65535#32))).setWidth 32)

/-- A comparison's bit as a word is one or zero. -/
theorem carry_toNat (x y : BitVec 32) :
    ((IntOp.cmpi .ult x y).setWidth 32).toNat = if x.toNat < y.toNat then 1 else 0 := by
  unfold IntOp.cmpi
  by_cases h : x.toNat < y.toNat
  · simp [BitVec.ult, h]
  · simp [BitVec.ult, h]

/-- The reference's two words are those of the exact unsigned product. -/
theorem rWords (a m : BitVec 32) :
    (rHi a m).toNat = a.toNat * m.toNat / 4294967296 ∧
      (rLo a m).toNat = a.toNat * m.toNat % 4294967296 := by
  have h16 : (16#32).toNat = 16 := by decide
  have ha := a.isLt
  have hm := m.isLt
  have e1 := toNat_and_mask a 65535#32 16 (by decide)
  have e2 := toNat_and_mask m 65535#32 16 (by decide)
  unfold rHi rLo rMid
  simp only [shrui_lt _ _ 16#32 (by decide), shli_lt _ _ 16#32 (by decide), h16,
    IntOp.addi, IntOp.muli, IntOp.andi, BitVec.toNat_add, BitVec.toNat_mul, BitVec.toNat_ushiftRight,
    BitVec.toNat_shiftLeft, carry_toNat, e1, e2, Nat.shiftRight_eq_div_pow, Nat.shiftLeft_eq]
  norm_num
  norm_num at ha hm
  generalize a.toNat = A at *
  generalize m.toNat = M at *
  obtain ⟨al, hal⟩ : ∃ z, z = A % 65536 := ⟨_, rfl⟩
  obtain ⟨ah, hah⟩ : ∃ z, z = A / 65536 := ⟨_, rfl⟩
  obtain ⟨ml, hml⟩ : ∃ z, z = M % 65536 := ⟨_, rfl⟩
  obtain ⟨mh, hmh⟩ : ∃ z, z = M / 65536 := ⟨_, rfl⟩
  rw [← hal, ← hah, ← hml, ← hmh]
  have hal0 : al ≤ 65535 := by omega
  have hml0 : ml ≤ 65535 := by omega
  have hah0 : ah ≤ 65535 := by omega
  have hmh0 : mh ≤ 65535 := by omega
  have hA' : A = ah * 65536 + al := by omega
  have hM' : M = mh * 65536 + ml := by omega
  have hP : A * M = (ah * mh) * 4294967296 + (ah * ml + al * mh) * 65536 + al * ml := by
    rw [hA', hM']; ring
  have hll : al * ml ≤ 4294836225 := le_trans (Nat.mul_le_mul hal0 hml0) (by norm_num)
  have hlh : al * mh ≤ 4294836225 := le_trans (Nat.mul_le_mul hal0 hmh0) (by norm_num)
  have hhl : ah * ml ≤ 4294836225 := le_trans (Nat.mul_le_mul hah0 hml0) (by norm_num)
  have hhh : ah * mh ≤ 4294836225 := le_trans (Nat.mul_le_mul hah0 hmh0) (by norm_num)
  have hPlt : A * M < 4294967296 * 4294967296 := Nat.mul_lt_mul'' (by omega) (by omega)
  rw [hP] at hPlt ⊢
  clear hP hA' hM' hal hah hml hmh ha hm hal0 hml0 hah0 hmh0 e1 e2
  generalize al * ml = ll at *
  generalize al * mh = lh at *
  generalize ah * ml = hl at *
  generalize ah * mh = hh at *
  constructor
  · split_ifs <;> omega
  · omega

/-! ## The quotient -/

/-- The kernel's shift, clipped to 1 … 63. -/
def kS (sh : BitVec 32) : BitVec 32 := IntOp.minsi 63#32 (IntOp.maxsi 1#32 (IntOp.subi 30#32 sh))

/-- The kernel's shift of both words. -/
def kSmall (sh : BitVec 32) : BitVec 32 := IntOp.minsi (kS sh) 31#32

/-- The kernel's shift of the high word alone. -/
def kBig (sh : BitVec 32) : BitVec 32 := IntOp.maxsi (IntOp.subi (kS sh) 32#32) 0#32

/-- The kernel's shifted product. -/
def kQ (a m sh : BitVec 32) : BitVec 32 :=
  Scalar.select (IntOp.cmpi .sge (kS sh) 32#32)
    (IntOp.shrsi .vector (kHi a m) (kBig sh))
    (IntOp.ori (IntOp.shli .vector (kHi a m) (IntOp.subi 32#32 (kSmall sh)))
      (IntOp.shrui .vector (IntOp.muli a m) (kSmall sh)))

/-- The reference's shift of both words. -/
def rSmall (sh : BitVec 32) : BitVec 32 :=
  IntOp.minsi 31#32 (IntOp.maxsi 1#32 (IntOp.subi 30#32 sh))

/-- The reference's shift of the high word alone. -/
def rBig (sh : BitVec 32) : BitVec 32 :=
  IntOp.minsi 31#32 (IntOp.maxsi 0#32 (IntOp.subi (IntOp.subi 30#32 sh) 32#32))

/-- The reference's shifted magnitude. -/
def rF (a m sh : BitVec 32) : BitVec 32 :=
  Scalar.select (IntOp.cmpi .sge (IntOp.subi 30#32 sh) 32#32)
    (IntOp.shrui .host (rHi a m) (rBig sh))
    (IntOp.ori (IntOp.shli .host (rHi a m) (IntOp.subi 32#32 (rSmall sh)))
      (IntOp.shrui .host (rLo a m) (rSmall sh)))

/-- Whether the reference dropped a remainder. -/
def rRem (a m sh : BitVec 32) : BitVec 1 :=
  Scalar.select (IntOp.cmpi .sge (IntOp.subi 30#32 sh) 32#32)
    (IntOp.ori (IntOp.cmpi .ne (rLo a m) 0#32)
      (IntOp.cmpi .ne
        (IntOp.andi (rHi a m) (IntOp.subi (IntOp.shli .host 1#32 (rBig sh)) 1#32)) 0#32))
    (IntOp.cmpi .ne
      (IntOp.andi (rLo a m) (IntOp.subi (IntOp.shli .host 1#32 (rSmall sh)) 1#32)) 0#32)

/-- The reference's shifted product, of the signed accumulator. -/
def rQ (a m sh : BitVec 32) : BitVec 32 :=
  Scalar.select (IntOp.cmpi .sge a 0#32) (rF (IntOp.absi a) m sh)
    (-(IntOp.addi (rF (IntOp.absi a) m sh) ((rRem (IntOp.absi a) m sh).setWidth 32)))

/-- A signed comparison that holds gives one. -/
theorem cmpi_sge_true {x y : BitVec 32} (h : y.toInt ≤ x.toInt) : IntOp.cmpi .sge x y = 1 := by
  simp [IntOp.cmpi, BitVec.sle, h]

/-- A signed comparison that fails gives zero. -/
theorem cmpi_sge_false {x y : BitVec 32} (h : x.toInt < y.toInt) : IntOp.cmpi .sge x y = 0 := by
  simp [IntOp.cmpi, BitVec.sle, not_le.2 h]

/-- A selection on one takes the first value. -/
theorem select_one {α : Type} (x y : α) : Scalar.select 1 x y = x := rfl
/-- A selection on zero takes the second value. -/
theorem select_zero {α : Type} (x y : α) : Scalar.select 0 x y = y := rfl

/-- The signed maximum does not depend on the order. -/
theorem maxsi_comm (x y : BitVec 32) : IntOp.maxsi x y = IntOp.maxsi y x := by
  apply BitVec.eq_of_toInt_eq
  simp only [IntOp.maxsi, BitVec.slt, decide_eq_true_eq]
  split_ifs <;> omega

/-- The signed maximum as an integer. -/
theorem toInt_maxsi (x y : BitVec 32) : (IntOp.maxsi x y).toInt = max x.toInt y.toInt := by
  simp only [IntOp.maxsi, BitVec.slt, decide_eq_true_eq]
  split_ifs <;> omega

/-- The signed minimum as an integer. -/
theorem toInt_minsi (x y : BitVec 32) : (IntOp.minsi x y).toInt = min x.toInt y.toInt := by
  simp only [IntOp.minsi, BitVec.slt, decide_eq_true_eq]
  split_ifs <;> omega

/-- A difference that fits is the difference of the signed values. -/
theorem toInt_subi {x y : BitVec 32} (h1 : -2147483648 ≤ x.toInt - y.toInt)
    (h2 : x.toInt - y.toInt < 2147483648) : (IntOp.subi x y).toInt = x.toInt - y.toInt := by
  unfold IntOp.subi
  rw [BitVec.toInt_sub, Int.bmod_eq_of_le] <;> norm_num <;> omega

/-- The word 0 as an integer. -/
theorem lit0 : (0#32).toInt = 0 := by decide
/-- The word 1 as an integer. -/
theorem lit1 : (1#32).toInt = 1 := by decide
/-- The word 31 as an integer. -/
theorem lit31 : (31#32).toInt = 31 := by decide
/-- The word 32 as an integer. -/
theorem lit32 : (32#32).toInt = 32 := by decide
/-- The word 63 as an integer. -/
theorem lit63 : (63#32).toInt = 63 := by decide

/-- A word with a small signed value that is not negative has that unsigned value. -/
theorem toNat_of_toInt {x : BitVec 32} (h : 0 ≤ x.toInt) : (x.toNat : ℤ) = x.toInt := by
  have := x.isLt
  rw [BitVec.toInt_eq_toNat_cond] at h ⊢
  split at h <;> split <;> omega

/-- Below 32 both programs shift the two words together, by the same amount from 1 to 31. -/
theorem shifts_small {sh : BitVec 32} (h : (IntOp.subi 30#32 sh).toInt < 32) :
    IntOp.cmpi .sge (kS sh) 32#32 = 0 ∧ kSmall sh = rSmall sh ∧
      1 ≤ (rSmall sh).toNat ∧ (rSmall sh).toNat ≤ 31 := by
  have hs : (kS sh).toInt = min 63 (max 1 (IntOp.subi 30#32 sh).toInt) := by
    unfold kS; rw [toInt_minsi, toInt_maxsi, lit63, lit1]
  have hr : (rSmall sh).toInt = min 31 (max 1 (IntOp.subi 30#32 sh).toInt) := by
    unfold rSmall; rw [toInt_minsi, toInt_maxsi, lit31, lit1]
  have hn := toNat_of_toInt (x := rSmall sh) (by omega)
  refine ⟨cmpi_sge_false (by rw [lit32]; omega), ?_, by omega, by omega⟩
  apply BitVec.eq_of_toInt_eq
  unfold kSmall
  rw [toInt_minsi, lit31]
  omega

/-- From 32 on both programs shift the high word, by the same amount from 0 to 31. -/
theorem shifts_big {sh : BitVec 32} (h : 32 ≤ (IntOp.subi 30#32 sh).toInt) :
    IntOp.cmpi .sge (kS sh) 32#32 = 1 ∧ kBig sh = rBig sh ∧ (rBig sh).toNat ≤ 31 := by
  have hlt := (IntOp.subi 30#32 sh).toInt_lt
  norm_num at hlt
  have hs : (kS sh).toInt = min 63 (max 1 (IntOp.subi 30#32 sh).toInt) := by
    unfold kS; rw [toInt_minsi, toInt_maxsi, lit63, lit1]
  have hr : (rBig sh).toInt = min 31 (max 0 ((IntOp.subi 30#32 sh).toInt - 32)) := by
    unfold rBig
    rw [toInt_minsi, toInt_maxsi, lit31, lit0,
      toInt_subi (by rw [lit32]; omega) (by rw [lit32]; omega), lit32]
  have hn := toNat_of_toInt (x := rBig sh) (by omega)
  refine ⟨cmpi_sge_true (by rw [lit32]; omega), ?_, by omega⟩
  apply BitVec.eq_of_toInt_eq
  unfold kBig
  rw [toInt_maxsi, lit0, toInt_subi (by rw [lit32]; omega) (by rw [lit32]; omega), lit32]
  omega

/-- `32 - s` as a word. -/
theorem sub32 {x : BitVec 32} (h31 : x.toNat ≤ 31) :
    (IntOp.subi 32#32 x).toNat = 32 - x.toNat := by
  unfold IntOp.subi
  rw [BitVec.toNat_sub]
  have : (32#32).toNat = 32 := by decide
  omega

/-- The mask of the low `s` bits. -/
theorem mask_toNat {x : BitVec 32} (h31 : x.toNat ≤ 31) :
    (IntOp.subi (IntOp.shli .host 1#32 x) 1#32).toNat = 2 ^ x.toNat - 1 := by
  rw [shli_lt _ _ _ (by omega)]
  generalize x.toNat = n at *
  unfold IntOp.subi
  interval_cases n <;> decide

/-- Whether a word is not zero, by its value. -/
theorem cmpi_ne_zero (x : BitVec 32) : IntOp.cmpi .ne x 0#32 = if x.toNat = 0 then 0 else 1 := by
  unfold IntOp.cmpi
  by_cases h : x.toNat = 0
  · have : x = 0#32 := BitVec.eq_of_toNat_eq h
    simp [this]
  · have : x ≠ 0#32 := fun e => h (by simp [e])
    have hb : (x != 0#32) = true := by simpa using this
    simp only [hb, h, if_false]
    rfl

/-- The shift below 32: the kernel's quotient is the exact floor. -/
theorem kQ_small {a m sh : BitVec 32} (hm : 0 ≤ m.toInt) (h : (IntOp.subi 30#32 sh).toInt < 32) :
    kQ a m sh = BitVec.ofInt 32 (a.toInt * m.toInt / 2 ^ (rSmall sh).toNat) := by
  obtain ⟨hc, he, h1, h31⟩ := shifts_small h
  unfold kQ
  rw [hc, select_zero, he, kHi_eq a m hm, shli_lt _ _ _ (by rw [sub32 h31]; omega), sub32 h31,
    shrui_lt _ _ _ (by omega)]
  unfold IntOp.ori IntOp.muli
  rw [funnel _ _ h1 h31, lo_eq]
  congr 2
  omega

/-- The shift from 32 on: the kernel's quotient is the exact floor. -/
theorem kQ_big {a m sh : BitVec 32} (hm : 0 ≤ m.toInt) (h : 32 ≤ (IntOp.subi 30#32 sh).toInt) :
    kQ a m sh = BitVec.ofInt 32 (a.toInt * m.toInt / 4294967296 / 2 ^ (rBig sh).toNat) := by
  obtain ⟨hc, he, h31⟩ := shifts_big h
  unfold kQ
  have ha1 := a.toInt_lt
  have ha2 := a.le_toInt
  have hm1 := m.toInt_lt
  norm_num at ha1 ha2 hm1
  have hp1 : a.toInt * m.toInt ≤ 4611686018427387904 := by nlinarith
  have hp2 : -4611686018427387904 ≤ a.toInt * m.toInt := by nlinarith
  rw [hc, select_one, he, kHi_eq a m hm, shrsi_lt _ _ _ (by omega), sshiftRight_eq,
    toInt_ofInt_of_range (by omega) (by omega)]

/-- The shift below 32: the reference's shifted magnitude and its remainder bit. -/
theorem rF_small {a m sh : BitVec 32} (h : (IntOp.subi 30#32 sh).toInt < 32) :
    rF a m sh = BitVec.ofInt 32 (((a.toNat * m.toNat : ℕ) : ℤ) / 2 ^ (rSmall sh).toNat) ∧
      rRem a m sh = if (a.toNat * m.toNat) % 2 ^ (rSmall sh).toNat = 0 then 0 else 1 := by
  obtain ⟨-, -, h1, h31⟩ := shifts_small h
  obtain ⟨hhi, hlo⟩ := rWords a m
  unfold rF rRem
  rw [cmpi_sge_false (by rw [lit32]; omega), select_zero, select_zero]
  constructor
  · have hH : rHi a m = BitVec.ofInt 32 (((a.toNat * m.toNat : ℕ) : ℤ) / 4294967296) := by
      apply BitVec.eq_of_toNat_eq
      have hlt := (rHi a m).isLt
      have := toNat_ofInt_of_range (n := ((a.toNat * m.toNat : ℕ) : ℤ) / 4294967296)
        (by omega) (by omega)
      omega
    rw [shli_lt _ _ _ (by rw [sub32 h31]; omega), sub32 h31, shrui_lt _ _ _ (by omega), hH]
    unfold IntOp.ori
    rw [funnel _ _ h1 h31, hlo]
    have e : ((a.toNat * m.toNat : ℕ) : ℤ) / 4294967296 * 4294967296
        + ((a.toNat * m.toNat % 4294967296 : ℕ) : ℤ) = ((a.toNat * m.toNat : ℕ) : ℤ) := by
      generalize a.toNat * m.toNat = p
      omega
    rw [e]
  · rw [cmpi_ne_zero]
    unfold IntOp.andi
    rw [toNat_and_mask _ _ _ (mask_toNat h31), hlo]
    have hd : 2 ^ (rSmall sh).toNat ∣ 4294967296 := by
      have := pow_dvd_pow 2 (show (rSmall sh).toNat ≤ 32 by omega)
      norm_num at this
      exact this
    rw [Nat.mod_mod_of_dvd _ hd]

/-- The shift from 32 on: the reference's shifted magnitude and its remainder bit. -/
theorem rF_big {a m sh : BitVec 32} (h : 32 ≤ (IntOp.subi 30#32 sh).toInt) :
    rF a m sh = BitVec.ofInt 32 (((a.toNat * m.toNat : ℕ) : ℤ) / (4294967296 * 2 ^ (rBig sh).toNat)) ∧
      rRem a m sh = if (a.toNat * m.toNat) % (4294967296 * 2 ^ (rBig sh).toNat) = 0 then 0 else 1 := by
  obtain ⟨-, -, h31⟩ := shifts_big h
  obtain ⟨hhi, hlo⟩ := rWords a m
  unfold rF rRem
  rw [cmpi_sge_true (by rw [lit32]; omega), select_one, select_one]
  constructor
  · rw [shrui_lt _ _ _ (by omega), ushiftRight_eq, hhi]
    push_cast
    rw [Int.ediv_ediv_of_nonneg (by norm_num)]
  · rw [cmpi_ne_zero, cmpi_ne_zero]
    unfold IntOp.andi
    rw [toNat_and_mask _ _ _ (mask_toNat h31), hlo, hhi, Nat.mod_mul]
    generalize a.toNat * m.toNat % 4294967296 = p
    generalize a.toNat * m.toNat / 4294967296 % 2 ^ (rBig sh).toNat = q
    unfold IntOp.ori
    by_cases hp : p = 0 <;> by_cases hq : q = 0 <;> simp [hp, hq]

/-- The magnitude read unsigned, the least value included. -/
theorem absi_toNat (a : BitVec 32) : ((IntOp.absi a).toNat : ℤ) = |a.toInt| := by
  have h := a.isLt
  unfold IntOp.absi
  rw [BitVec.msb_eq_toInt]
  by_cases hn : a.toInt < 0
  · simp only [hn, decide_true, if_true]
    rw [abs_of_neg hn, BitVec.toNat_neg]
    rw [BitVec.toInt_eq_toNat_cond] at hn ⊢
    split at hn <;> split <;> omega
  · simp only [hn, decide_false, Bool.false_eq_true, if_false]
    rw [abs_of_nonneg (by omega)]
    exact toNat_of_toInt (by omega)

/-- The floor of a negated quotient: the negated quotient, one less when a remainder is dropped. -/
theorem neg_floor (U d : ℕ) (hd : 0 < d) :
    -((U : ℤ)) / (d : ℤ) = -((U : ℤ) / d + (if U % d = 0 then 0 else 1)) := by
  have h1 := Nat.div_add_mod U d
  have h2 := Nat.mod_lt U hd
  have hc : ((U : ℤ) / d) = ((U / d : ℕ) : ℤ) := by push_cast; rfl
  rw [hc]
  generalize U / d = q at *
  generalize U % d = r at *
  have hU : (U : ℤ) = d * q + r := by exact_mod_cast h1.symm
  rw [hU]
  have hd' : (0 : ℤ) < d := by exact_mod_cast hd
  by_cases hr : r = 0
  · subst hr
    simp only [Nat.cast_zero, add_zero, if_true]
    rw [← mul_neg, Int.mul_ediv_cancel_left _ (by omega)]
  · simp only [hr, if_false]
    have : -((d : ℤ) * q + r) = (d - r) + d * (-(q + 1)) := by ring
    rw [this, Int.add_mul_ediv_left _ _ (by omega), Int.ediv_eq_zero_of_lt (by omega) (by omega)]
    ring

/-- The reference's quotient from its magnitude's. -/
theorem rQ_of {a m sh : BitVec 32} (hm : 0 ≤ m.toInt) (d : ℕ) (hd : 0 < d)
    (hF : rF (IntOp.absi a) m sh
      = BitVec.ofInt 32 ((((IntOp.absi a).toNat * m.toNat : ℕ) : ℤ) / (d : ℤ)))
    (hR : rRem (IntOp.absi a) m sh = if ((IntOp.absi a).toNat * m.toNat) % d = 0 then 0 else 1) :
    rQ a m sh = BitVec.ofInt 32 (a.toInt * m.toInt / (d : ℤ)) := by
  have hu : (((IntOp.absi a).toNat * m.toNat : ℕ) : ℤ) = |a.toInt| * m.toInt := by
    push_cast
    rw [absi_toNat, toNat_of_toInt hm]
  unfold rQ
  by_cases hn : 0 ≤ a.toInt
  · rw [cmpi_sge_true (by rw [lit0]; exact hn), select_one, hF, hu, abs_of_nonneg hn]
  · rw [cmpi_sge_false (by rw [lit0]; omega), select_zero, hF, hR]
    have hP : a.toInt * m.toInt = -(((IntOp.absi a).toNat * m.toNat : ℕ) : ℤ) := by
      rw [hu, abs_of_neg (by omega)]; ring
    rw [hP, neg_floor _ _ hd]
    unfold IntOp.addi
    by_cases hz : ((IntOp.absi a).toNat * m.toNat) % d = 0
    · simp only [hz, if_true]
      rw [BitVec.ofInt_neg, BitVec.ofInt_add]
      rfl
    · simp only [hz, if_false]
      rw [BitVec.ofInt_neg, BitVec.ofInt_add]
      rfl

/-- Both programs shift the product to the same word when the multiplier is not negative. -/
theorem kQ_eq_rQ (a m sh : BitVec 32) (hm : 0 ≤ m.toInt) : kQ a m sh = rQ a m sh := by
  by_cases h : (IntOp.subi 30#32 sh).toInt < 32
  · obtain ⟨hF, hR⟩ := rF_small (a := IntOp.absi a) (m := m) h
    rw [kQ_small hm h, rQ_of hm (2 ^ (rSmall sh).toNat) (by positivity) (by rw [hF]; push_cast; rfl) hR]
    push_cast
    rfl
  · obtain ⟨hF, hR⟩ := rF_big (a := IntOp.absi a) (m := m) (not_lt.1 h)
    rw [kQ_big hm (not_lt.1 h), rQ_of hm (4294967296 * 2 ^ (rBig sh).toNat) (by positivity)
      (by rw [hF]; push_cast; rfl) hR]
    push_cast
    rw [Int.ediv_ediv_of_nonneg (by norm_num)]

/-! ## The whole tail -/

/-- The kernel's tail: half the quotient rounded, the zero point added, the clip and the cast. -/
def kOut (a m sh zo lo hi : BitVec 32) : BitVec 8 :=
  (IntOp.minsi (IntOp.maxsi
    (IntOp.addi (IntOp.shrsi .vector (IntOp.addi (kQ a m sh) 1#32) 1#32) zo) lo) hi).setWidth 8

/-- The reference's tail. -/
def rOut (a m sh zo lo hi : BitVec 32) : BitVec 8 :=
  (IntOp.minsi hi (IntOp.maxsi lo
    (IntOp.addi (IntOp.shrsi .host (IntOp.addi (rQ a m sh) 1#32) 1#32) zo))).setWidth 8

/-- The signed minimum does not depend on the order. -/
theorem minsi_comm (x y : BitVec 32) : IntOp.minsi x y = IntOp.minsi y x := by
  apply BitVec.eq_of_toInt_eq
  rw [toInt_minsi, toInt_minsi, min_comm]

/-- From one accumulator value both programs return the same int8 when the multiplier is not
    negative. -/
theorem kOut_eq_rOut (a m sh zo lo hi : BitVec 32) (hm : 0 ≤ m.toInt) :
    kOut a m sh zo lo hi = rOut a m sh zo lo hi := by
  unfold kOut rOut
  rw [kQ_eq_rQ a m sh hm, minsi_comm hi, maxsi_comm lo,
    shrsi_lt _ _ _ (show (1#32).toNat < 32 by decide), shrsi_lt _ _ _ (show (1#32).toNat < 32 by decide)]

end Cert.Requant
-- ==== Proof.Body.lean ====
module

public import proofs.«01_k».proof.Proof.Gen.KernelIdeal.Skeleton
public import proofs.«01_k».proof.Proof.Requant
public import Idealize.ShloMosaic.Lib.Pointwise
public import Idealize.ShloMosaic.Lib.Pipeline.Value

@[expose] public section

/-! # What the kernel's body computes at one element of its block -/

namespace Cert.Body

open Idealize.ShloMosaic Cert.KernelIdeal Cert.KernelIdeal.Gen

/-- The word of an exact integer in range: the conversion from the float side returns it. -/
theorem fptosi_int {n : ℤ} (h1 : -2147483648 ≤ n) (h2 : n ≤ 2147483647) :
    Ideal.fptosi 32 (((n : ℤ) : ℝ) : EReal) = BitVec.ofInt 32 n := by
  rw [Ideal.fptosi, Ideal.toIntClamped_coe]
  have hfl : (if (0 : ℝ) ≤ (n : ℝ) then ⌊(n : ℝ)⌋ else ⌈(n : ℝ)⌉) = n := by
    rw [Int.floor_intCast, Int.ceil_intCast, ite_self]
  rw [hfl]
  congr 1
  norm_num
  omega

/-- A finite sum of reals is the same sum in the extended reals. -/
theorem coe_real_sum {ι : Type} (S : Finset ι) (f : ι → ℝ) :
    ((∑ k ∈ S, f k : ℝ) : EReal) = ∑ k ∈ S, ((f k : ℝ) : EReal) := by
  classical
  induction S using Finset.induction_on with
  | empty => simp
  | insert a S ha ih => rw [Finset.sum_insert ha, Finset.sum_insert ha, EReal.coe_add, ih]

/-- The integer that one block of 512 input channels, starting at `off`, adds to element `(r, c)`. -/
def blockSum (z : BitVec 32) (x : S64x4096.Idx → BitVec 8) (w : S512x512.Idx → BitVec 8)
    (off : ℕ) (h : off + 512 ≤ 4096) (r : Fin 64) (c : Fin 512) : ℤ :=
  ∑ k : Fin 512, ((x (ix2 r ⟨off + k.val, by omega⟩)).toInt - z.toInt) * (w (ix2 c k)).toInt

/-- Under the range of the zero point a block's integer is a 32-bit one. -/
theorem blockSum_range {z : BitVec 32} (hz1 : -32641 ≤ z.toInt) (hz2 : z.toInt ≤ 32639)
    (x : S64x4096.Idx → BitVec 8) (w : S512x512.Idx → BitVec 8)
    (off : ℕ) (h : off + 512 ≤ 4096) (r : Fin 64) (c : Fin 512) :
    -2147483648 ≤ blockSum z x w off h r c ∧ blockSum z x w off h r c ≤ 2147483647 := by
  have hterm : ∀ k : Fin 512,
      -4194304 ≤ ((x (ix2 r ⟨off + k.val, by omega⟩)).toInt - z.toInt) * (w (ix2 c k)).toInt ∧
      ((x (ix2 r ⟨off + k.val, by omega⟩)).toInt - z.toInt) * (w (ix2 c k)).toInt ≤ 4194303 := by
    intro k
    have h1 := (x (ix2 r ⟨off + k.val, by omega⟩)).toInt_lt
    have h2 := (x (ix2 r ⟨off + k.val, by omega⟩)).le_toInt
    have h3 := (w (ix2 c k)).toInt_lt
    have h4 := (w (ix2 c k)).le_toInt
    norm_num at h1 h2 h3 h4
    generalize (x (ix2 r ⟨off + k.val, by omega⟩)).toInt = a at *
    generalize (w (ix2 c k)).toInt = b at *
    obtain ⟨d, hd⟩ : ∃ d, d = a - z.toInt := ⟨_, rfl⟩
    rw [← hd]
    have h5 : -32767 ≤ d := by omega
    have h6 : d ≤ 32768 := by omega
    constructor <;> nlinarith
  have h1 := Finset.sum_le_sum fun (k : Fin 512) (_ : k ∈ Finset.univ) => (hterm k).2
  have h2 := Finset.sum_le_sum fun (k : Fin 512) (_ : k ∈ Finset.univ) => (hterm k).1
  simp only [Finset.sum_const, Finset.card_univ, Fintype.card_fin, nsmul_eq_mul] at h1 h2
  unfold blockSum
  constructor
  · refine le_trans ?_ h2; norm_num
  · refine le_trans h1 ?_; norm_num

/-- One block of the kernel's contraction, converted to integers, is the word of the block's exact sum. -/
theorem block_word {z : BitVec 32} (hz1 : -32641 ≤ z.toInt) (hz2 : z.toInt ≤ 32639)
    (x : Vec Ideal S64x4096 .i8) (w : Vec Ideal S512x512 .i8)
    (off : ℕ) (h : off + 512 ≤ 4096) (hs : S64x4096.Slices ![0, off] S64x512) (r : Fin 64) (c : Fin 512) :
    fptosi 32 (matmul (F := Ideal) dot_S64x512_S512x512_S64x512_1_1_0_0_n_n none
        (extractStridedSlice S64x512 ![0, off] (k0_pay2 (F := Ideal) z x) hs)
        (sitofp .bf16 w) (constant S64x512 .f32 0x00000000#32)) (ix2 r c)
      = BitVec.ofInt 32 (blockSum z x w off h r c) := by
  pointwise [k0_pay2]
  obtain ⟨h1, h2⟩ := blockSum_range hz1 hz2 x w off h r c
  rw [← fptosi_int h1 h2]
  refine congrArg (Ideal.fptosi 32) ?_
  unfold blockSum
  rw [Int.cast_sum, coe_real_sum]
  refine Finset.sum_congr rfl fun k _ => ?_
  rw [Int.cast_mul, Int.cast_sub, EReal.coe_mul, EReal.coe_sub]
  rfl

/-- The kernel's accumulator at one element: the bias and the eight blocks' words. -/
def accWord (z : BitVec 32) (x : S64x4096.Idx → BitVec 8) (b : BitVec 32)
    (w : Fin 8 → S512x512.Idx → BitVec 8) (r : Fin 64) (c : Fin 512) : BitVec 32 :=
  b + BitVec.ofInt 32 (∑ j : Fin 8, blockSum z x (w j) (j.val * 512) (by omega) r c)

/-- The accumulator the body holds before it requantises. -/
theorem acc_apply {z : BitVec 32} (hz1 : -32641 ≤ z.toInt) (hz2 : z.toInt ≤ 32639)
    (x : Vec Ideal S64x4096 .i8) (b : Vec Ideal S1x512 .i32)
    (w : Fin 8 → Vec Ideal S512x512 .i8) (r : Fin 64) (c : Fin 512) :
    k0_pay5 (F := Ideal) (k0_pay2 (F := Ideal) z x) (k0_pay3 (F := Ideal) z x b (w 0) (w 1) (w 2) (w 3))
        (k0_pay4 (F := Ideal) z x (w 4)) (w 5) (w 6) (w 7) (ix2 r c)
      = accWord z x (b (ix2 0 c)) w r c := by
  unfold k0_pay5 k0_pay3 k0_pay4
  simp only [addi, IntOp.addi]
  rw [block_word hz1 hz2 x (w 0) 0 (by omega), block_word hz1 hz2 x (w 1) 512 (by omega),
    block_word hz1 hz2 x (w 2) 1024 (by omega), block_word hz1 hz2 x (w 3) 1536 (by omega),
    block_word hz1 hz2 x (w 4) 2048 (by omega), block_word hz1 hz2 x (w 5) 2560 (by omega),
    block_word hz1 hz2 x (w 6) 3072 (by omega), block_word hz1 hz2 x (w 7) 3584 (by omega)]
  have hb : broadcastTo S64x512 (shapeCast S1x512 b shapeCasts_S1x512_S1x512)
      broadcasts_S1x512_S64x512 (ix2 r c) = b (ix2 0 c) := by pointwise
  rw [hb]
  unfold accWord
  rw [Fin.sum_univ_eight]
  simp only [BitVec.ofInt_add, ← BitVec.add_assoc]
  rfl

/-- What the body stores at one element: the requantised accumulator. -/
theorem stored_apply (v7 : FVec Ideal S64x4096 .bf16) (v34 : IVec S64x512 32) (v38 : FVec Ideal S64x512 .f32)
    (w5 w6 w7 : Vec Ideal S512x512 .i8) (m sh : Vec Ideal S1x512 .i32) (zo lo hi : BitVec 32)
    (r : Fin 64) (c : Fin 512) :
    k0_pay1 (F := Ideal) zo lo hi
        (k0_pay14 (k0_pay5 (F := Ideal) v7 v34 v38 w5 w6 w7) (k0_pay6 (F := Ideal) m) (k0_pay7 (F := Ideal) sh)
          (k0_pay9 (F := Ideal) v7 v34 v38 w5 w6 w7) (k0_pay10 (F := Ideal) m) (k0_pay11 (F := Ideal) m)
          (k0_pay12 (F := Ideal) v7 v34 v38 w5 w6 w7 m) (k0_pay13 (F := Ideal) v7 v34 v38 w5 w6 w7 m) 16#32)
        1#32 (ix2 r c)
      = Cert.Requant.kOut (k0_pay5 (F := Ideal) v7 v34 v38 w5 w6 w7 (ix2 r c)) (m (ix2 0 c)) (sh (ix2 0 c))
          zo lo hi := by
  unfold k0_pay9 k0_pay12 k0_pay13 k0_pay8
  generalize k0_pay5 (F := Ideal) v7 v34 v38 w5 w6 w7 = acc
  pointwise [k0_pay1, k0_pay14, k0_pay6, k0_pay7, k0_pay10, k0_pay11, Cert.Requant.kOut, Cert.Requant.kQ,
    Cert.Requant.kHi, Cert.Requant.kMid, Cert.Requant.kS, Cert.Requant.kSmall, Cert.Requant.kBig]

end Cert.Body
-- ==== Proof.Blocks.lean ====
module

public import proofs.«01_k».proof.Proof.Gen.KernelIdeal.Frame
public import proofs.«01_k».proof.Proof.Body
public import Idealize.ShloMosaic.Lib.Pipeline.ValueKit

@[expose] public section

set_option maxRecDepth 16384

noncomputable section

/-! # What the kernel's output array holds after the run -/

namespace Cert.Blocks

open Idealize.ShloMosaic Idealize.ShloMosaic.TcCoe Idealize.SL.Sem
open Cert.KernelIdeal Cert.KernelIdeal.Gen Cert.Body

variable (m : (ℓ : Loc nD τ sig) → Buf (Elt Ideal) ℓ)

/-- The bias plus the word of the exact sum of centred products, over a row of activations and a row of weights. -/
def rowSum {N : ℕ} (x : S64x4096.Idx → BitVec 8) (z : BitVec 32) (w : (⟨2, ![N, 4096]⟩ : Shape).Idx → BitVec 8) (b : BitVec 32)
    (r : Fin 64) (n : Fin N) : BitVec 32 :=
  b + BitVec.ofInt 32 (∑ k : Fin 4096, ((x (ix2 r k)).toInt - z.toInt) * (w (ix2 n k)).toInt)

/-- The eight blocks of 512 input channels together are the 4096 channels. -/
theorem accWord_slices (z : BitVec 32) (x : S64x4096.Idx → BitVec 8) (b : BitVec 32) (w : S512x4096.Idx → BitVec 8)
    (ws : Fin 8 → S512x512.Idx → BitVec 8)
    (h : ∀ (j : Fin 8) (c k : Fin 512), ws j (ix2 c k) = w (ix2 c ⟨j.val * 512 + k.val, by omega⟩))
    (r : Fin 64) (c : Fin 512) : accWord z x b ws r c = rowSum x z w b r c := by
  unfold accWord rowSum blockSum
  refine congrArg (fun q : ℤ => b + BitVec.ofInt 32 q) ?_
  refine Fin.sum_mul_add_congr (f := fun k : Fin 4096 => ((x (ix2 r k)).toInt - z.toInt) * (w (ix2 c k)).toInt)
    fun j k hl => ?_
  rw [h j c k]

/-- A scalar read out of the four that the kernel takes. -/
theorem ld_scal (s : Vec Ideal S4 .i32) (q : Fin 4) (h1 : ∀ a, (![q.val] : Fin 1 → ℕ) a + (![1] : Fin 1 → ℕ) a ≤ S4.size a)
    (h2 : 0 < (Rect.unit (s := S4) ![q.val] ![1] h1).shape.numel) :
    View.ld s (Rect.unit ![q.val] ![1] h1) (Shape.Idx.first h2) = s (ix1 q) := by
  rw [View.ld_apply]
  refine congrArg s (funext fun a => Fin.ext ?_)
  have := ((Shape.Idx.first h2 : (Rect.unit (s := S4) ![q.val] ![1] h1).shape.Idx) a).isLt
  match a with
  | ⟨0, _⟩ =>
    rw [Rect.idx_unit_val]
    exact congrArg (q.val + ·) (Nat.lt_one_iff.1 this)

/-- A slice of 512 input channels of a block of weights. -/
theorem ld_slice (w : Vec Ideal S512x4096 .i8) (o : ℕ) (ho : o + 512 ≤ 4096)
    (h1 : ∀ a, (![0, o] : Fin 2 → ℕ) a + (![512, 512] : Fin 2 → ℕ) a ≤ S512x4096.size a) (c k : Fin 512) :
    View.ld w (Rect.unit ![0, o] ![512, 512] h1) (ix2 c k) = w (ix2 c ⟨o + k.val, by omega⟩) := by
  rw [View.ld_apply]
  refine congrArg w (funext fun a => Fin.ext ?_)
  rw [Rect.idx_unit_val]
  match a with
  | ⟨0, _⟩ => exact Nat.zero_add _
  | ⟨1, _⟩ => rfl

/-- What the body stores at one element, of its blocks. -/
theorem point_value (s : Vec Ideal S4 .i32) (x : Vec Ideal S64x4096 .i8) (w : Vec Ideal S512x4096 .i8)
    (b mu sf : Vec Ideal S1x512 .i32) (r : Fin 64) (j : Fin 512)
    (hz1 : -32641 ≤ (s (ix1 0) : BitVec 32).toInt) (hz2 : (s (ix1 0) : BitVec 32).toInt ≤ 32639)
    (h0 : 0 < (Rect.unit (s := S4) ![0] ![1] inb_S4_S1_0).shape.numel)
    (h1 : 0 < (Rect.unit (s := S4) ![1] ![1] inb_S4_S1_1).shape.numel)
    (h2 : 0 < (Rect.unit (s := S4) ![2] ![1] inb_S4_S1_2).shape.numel)
    (h3 : 0 < (Rect.unit (s := S4) ![3] ![1] inb_S4_S1_3).shape.numel) :
    Requant.kOut
      (k0_pay5 (F := Ideal) (k0_pay2 (F := Ideal) (View.ld s (Rect.unit ![0] ![1] inb_S4_S1_0) (Shape.Idx.first h0)) x)
        (k0_pay3 (F := Ideal) (View.ld s (Rect.unit ![0] ![1] inb_S4_S1_0) (Shape.Idx.first h0)) x b
          (View.ld w (Rect.unit ![0, 0] ![512, 512] inb_S512x4096_S512x512_0_0))
          (View.ld w (Rect.unit ![0, 512] ![512, 512] inb_S512x4096_S512x512_0_512))
          (View.ld w (Rect.unit ![0, 1024] ![512, 512] inb_S512x4096_S512x512_0_1024))
          (View.ld w (Rect.unit ![0, 1536] ![512, 512] inb_S512x4096_S512x512_0_1536)))
        (k0_pay4 (F := Ideal) (View.ld s (Rect.unit ![0] ![1] inb_S4_S1_0) (Shape.Idx.first h0)) x
          (View.ld w (Rect.unit ![0, 2048] ![512, 512] inb_S512x4096_S512x512_0_2048)))
        (View.ld w (Rect.unit ![0, 2560] ![512, 512] inb_S512x4096_S512x512_0_2560))
        (View.ld w (Rect.unit ![0, 3072] ![512, 512] inb_S512x4096_S512x512_0_3072))
        (View.ld w (Rect.unit ![0, 3584] ![512, 512] inb_S512x4096_S512x512_0_3584)) (ix2 r j))
      (mu (ix2 0 j)) (sf (ix2 0 j)) (View.ld s (Rect.unit ![1] ![1] inb_S4_S1_1) (Shape.Idx.first h1))
      (View.ld s (Rect.unit ![2] ![1] inb_S4_S1_2) (Shape.Idx.first h2))
      (View.ld s (Rect.unit ![3] ![1] inb_S4_S1_3) (Shape.Idx.first h3)) =
    Requant.kOut (rowSum x (s (ix1 0)) w (b (ix2 0 j)) r j) (mu (ix2 0 j)) (sf (ix2 0 j)) (s (ix1 1)) (s (ix1 2))
      (s (ix1 3)) := by
  rw [show View.ld s (Rect.unit ![0] ![1] inb_S4_S1_0) (Shape.Idx.first h0) = s (ix1 0) from ld_scal s 0 _ _,
    show View.ld s (Rect.unit ![1] ![1] inb_S4_S1_1) (Shape.Idx.first h1) = s (ix1 1) from ld_scal s 1 _ _,
    show View.ld s (Rect.unit ![2] ![1] inb_S4_S1_2) (Shape.Idx.first h2) = s (ix1 2) from ld_scal s 2 _ _,
    show View.ld s (Rect.unit ![3] ![1] inb_S4_S1_3) (Shape.Idx.first h3) = s (ix1 3) from ld_scal s 3 _ _]
  congr 1
  refine (acc_apply hz1 hz2 x b ![View.ld w (Rect.unit ![0, 0] ![512, 512] inb_S512x4096_S512x512_0_0),
    View.ld w (Rect.unit ![0, 512] ![512, 512] inb_S512x4096_S512x512_0_512),
    View.ld w (Rect.unit ![0, 1024] ![512, 512] inb_S512x4096_S512x512_0_1024),
    View.ld w (Rect.unit ![0, 1536] ![512, 512] inb_S512x4096_S512x512_0_1536),
    View.ld w (Rect.unit ![0, 2048] ![512, 512] inb_S512x4096_S512x512_0_2048),
    View.ld w (Rect.unit ![0, 2560] ![512, 512] inb_S512x4096_S512x512_0_2560),
    View.ld w (Rect.unit ![0, 3072] ![512, 512] inb_S512x4096_S512x512_0_3072),
    View.ld w (Rect.unit ![0, 3584] ![512, 512] inb_S512x4096_S512x512_0_3584)] r j).trans
    (accWord_slices _ _ _ _ _ (fun q c k => ?_) _ _)
  match q with
  | ⟨0, _⟩ => exact ld_slice w 0 (by omega) inb_S512x4096_S512x512_0_0 c k
  | ⟨1, _⟩ => exact ld_slice w 512 (by omega) inb_S512x4096_S512x512_0_512 c k
  | ⟨2, _⟩ => exact ld_slice w 1024 (by omega) inb_S512x4096_S512x512_0_1024 c k
  | ⟨3, _⟩ => exact ld_slice w 1536 (by omega) inb_S512x4096_S512x512_0_1536 c k
  | ⟨4, _⟩ => exact ld_slice w 2048 (by omega) inb_S512x4096_S512x512_0_2048 c k
  | ⟨5, _⟩ => exact ld_slice w 2560 (by omega) inb_S512x4096_S512x512_0_2560 c k
  | ⟨6, _⟩ => exact ld_slice w 3072 (by omega) inb_S512x4096_S512x512_0_3072 c k
  | ⟨7, _⟩ => exact ld_slice w 3584 (by omega) inb_S512x4096_S512x512_0_3584 c k

/-- What one grid point leaves in its block of the output. -/
theorem out_at (c : Dev nD) (t : Fin cfg0.N) (r : Fin 64) (j : Fin 512)
    (hz1 : -32641 ≤ ((iblk m c 0 t : S4.Idx → BitVec 32) (ix1 0)).toInt)
    (hz2 : ((iblk m c 0 t : S4.Idx → BitVec 32) (ix1 0)).toInt ≤ 32639) :
    outsAt0 (F := Ideal) m c t (ix2 r j)
      = Cert.Requant.kOut
          (rowSum (iblk m c 1 t) ((iblk m c 0 t : S4.Idx → BitVec 32) (ix1 0)) (iblk m c 2 t)
            ((iblk m c 3 t : S1x512.Idx → BitVec 32) (ix2 0 j)) r j)
          ((iblk m c 4 t : S1x512.Idx → BitVec 32) (ix2 0 j)) ((iblk m c 5 t : S1x512.Idx → BitVec 32) (ix2 0 j))
          ((iblk m c 0 t : S4.Idx → BitVec 32) (ix1 1)) ((iblk m c 0 t : S4.Idx → BitVec 32) (ix1 2))
          ((iblk m c 0 t : S4.Idx → BitVec 32) (ix1 3)) := by
  rw [outsAt0]
  frame_out
  generalize iblk m c 0 t = s at *
  generalize iblk m c 1 t = x
  generalize iblk m c 2 t = w
  generalize iblk m c 3 t = b
  generalize iblk m c 4 t = mu
  generalize iblk m c 5 t = sf
  refine (stored_apply _ _ _ _ _ _ _ _ _ _ _ _ _).trans ?_
  exact point_value s x w b mu sf r j hz1 hz2 _ _ _ _

/-- Where each window's block lies at a grid point. -/
theorem idx : ∀ t : Fin cfg0.N, (cfg0.win 0).index t = ![0] ∧ (cfg0.win 1).index t = ![0, 0] ∧ (cfg0.win 2).index t = ![t.val, 0]
    ∧ (cfg0.win 3).index t = ![0, t.val] ∧ (cfg0.win 4).index t = ![0, t.val] ∧ (cfg0.win 5).index t = ![0, t.val]
    ∧ (cfg0.win 6).index t = ![0, t.val] := by
  decide +kernel

/-- The activations as the kernel takes them. -/
theorem x_entry (c : Dev nD) (r : Fin 64) (k : Fin 4096) :
    (V m c main_v5 : S64x4096.Idx → BitVec 8) (ix2 r k)
      = (m ((c.tc : Thread nD τ).loc main_arg0) : S64x1x4096.Idx → BitVec 8) (ix3 r 0 k) := by
  show StableHlo.after (List.flatten [hostOps0]) _ _ _ = _
  rw [List.flatten_cons, List.flatten_nil, List.append_nil]
  entry_read
  pointwise
  blk_ext

/-- The activations a grid point reads. -/
theorem x_at (c : Dev nD) (t : Fin cfg0.N) (r : Fin 64) (k : Fin 4096) :
    (iblk m c 1 t : S64x4096.Idx → BitVec 8) (ix2 r k)
      = (m ((c.tc : Thread nD τ).loc main_arg0) : S64x1x4096.Idx → BitVec 8) (ix3 r 0 k) := by
  refine Eq.trans ?_ (x_entry m c r k)
  blk_ext [iblk, (idx t).2.1]

/-- The block of weights a grid point reads. -/
theorem w_at (c : Dev nD) (t : Fin cfg0.N) (j : Fin 512) (k : Fin 4096) (n : Fin 14336) (h : n.val = t.val * 512 + j.val) :
    (iblk m c 2 t : S512x4096.Idx → BitVec 8) (ix2 j k)
      = (m ((c.tc : Thread nD τ).loc main_arg2) : S14336x4096.Idx → BitVec 8) (ix2 n k) := by
  blk_ext [iblk, V, (idx t).2.2.1]

/-- The bias of a channel, as the kernel takes it. -/
theorem vec_entry3 (c : Dev nD) (n : Fin 14336) :
    (V m c main_v6 : S1x14336.Idx → BitVec 32) (ix2 0 n)
      = (m ((c.tc : Thread nD τ).loc main_arg3) : S14336.Idx → BitVec 32) (ix1 n) := by
  show StableHlo.after (List.flatten [hostOps0]) _ _ _ = _
  rw [List.flatten_cons, List.flatten_nil, List.append_nil]
  entry_read
  pointwise
  blk_ext

/-- The block of the bias that a grid point reads. -/
theorem vec_at3 (c : Dev nD) (t : Fin cfg0.N) (j : Fin 512) (n : Fin 14336) (h : n.val = t.val * 512 + j.val) :
    (iblk m c 3 t : S1x512.Idx → BitVec 32) (ix2 0 j)
      = (m ((c.tc : Thread nD τ).loc main_arg3) : S14336.Idx → BitVec 32) (ix1 n) := by
  refine Eq.trans ?_ (vec_entry3 m c n)
  blk_ext [iblk, (idx t).2.2.2.1]

/-- The multiplier of a channel, as the kernel takes it. -/
theorem vec_entry4 (c : Dev nD) (n : Fin 14336) :
    (V m c main_v7 : S1x14336.Idx → BitVec 32) (ix2 0 n)
      = (m ((c.tc : Thread nD τ).loc main_arg4) : S14336.Idx → BitVec 32) (ix1 n) := by
  show StableHlo.after (List.flatten [hostOps0]) _ _ _ = _
  rw [List.flatten_cons, List.flatten_nil, List.append_nil]
  entry_read
  pointwise
  blk_ext

/-- The block of the multiplier that a grid point reads. -/
theorem vec_at4 (c : Dev nD) (t : Fin cfg0.N) (j : Fin 512) (n : Fin 14336) (h : n.val = t.val * 512 + j.val) :
    (iblk m c 4 t : S1x512.Idx → BitVec 32) (ix2 0 j)
      = (m ((c.tc : Thread nD τ).loc main_arg4) : S14336.Idx → BitVec 32) (ix1 n) := by
  refine Eq.trans ?_ (vec_entry4 m c n)
  blk_ext [iblk, (idx t).2.2.2.2.1]

/-- The shift of a channel, as the kernel takes it. -/
theorem vec_entry5 (c : Dev nD) (n : Fin 14336) :
    (V m c main_v8 : S1x14336.Idx → BitVec 32) (ix2 0 n)
      = (m ((c.tc : Thread nD τ).loc main_arg5) : S14336.Idx → BitVec 32) (ix1 n) := by
  show StableHlo.after (List.flatten [hostOps0]) _ _ _ = _
  rw [List.flatten_cons, List.flatten_nil, List.append_nil]
  entry_read
  pointwise
  blk_ext

/-- The block of the shift that a grid point reads. -/
theorem vec_at5 (c : Dev nD) (t : Fin cfg0.N) (j : Fin 512) (n : Fin 14336) (h : n.val = t.val * 512 + j.val) :
    (iblk m c 5 t : S1x512.Idx → BitVec 32) (ix2 0 j)
      = (m ((c.tc : Thread nD τ).loc main_arg5) : S14336.Idx → BitVec 32) (ix1 n) := by
  refine Eq.trans ?_ (vec_entry5 m c n)
  blk_ext [iblk, (idx t).2.2.2.2.2.1]

/-- Concatenations of equal pieces are equal. -/
theorem concat_congr (f0 f1 f2 f3 g0 g1 g2 g3 : S1.Idx → BitVec 32) (h0 : f0 = g0) (h1 : f1 = g1) (h2 : f2 = g2) (h3 : f3 = g3) :
    concatenate S4 0 [⟨S1, f0⟩, ⟨S1, f1⟩, ⟨S1, f2⟩, ⟨S1, f3⟩] concatenates_S1_S1_S1_S1_S4_d0
      = concatenate S4 0 [⟨S1, g0⟩, ⟨S1, g1⟩, ⟨S1, g2⟩, ⟨S1, g3⟩] concatenates_S1_S1_S1_S1_S4_d0 := by
  subst h0 h1 h2 h3; rfl

/-- The four scalars the kernel takes, as one array. -/
theorem s_entry (c : Dev nD) :
    (V m c main_v4 : S4.Idx → BitVec 32)
      = concatenate S4 0 [⟨S1, broadcastInDim S1 ![] bcast_S_S1 (m ((c.tc : Thread nD τ).loc main_arg1) : S_.Idx → BitVec 32)⟩,
        ⟨S1, broadcastInDim S1 ![] bcast_S_S1 (m ((c.tc : Thread nD τ).loc main_arg6) : S_.Idx → BitVec 32)⟩,
        ⟨S1, broadcastInDim S1 ![] bcast_S_S1 (m ((c.tc : Thread nD τ).loc main_arg7) : S_.Idx → BitVec 32)⟩,
        ⟨S1, broadcastInDim S1 ![] bcast_S_S1 (m ((c.tc : Thread nD τ).loc main_arg8) : S_.Idx → BitVec 32)⟩] concatenates_S1_S1_S1_S1_S4_d0 := by
  show StableHlo.after (List.flatten [hostOps0]) _ _ = _
  rw [List.flatten_cons, List.flatten_nil, List.append_nil]
  simp only [StableHlo.after_cons, StableHlo.after_nil]
  after_results_simp
  refine concat_congr _ _ _ _ _ _ _ _ ?_ ?_ ?_ ?_
  · change HloOp.result _ _ (Proc.devRef .tc main_v0) = _
    after_results_simp
  · change HloOp.result _ _ (Proc.devRef .tc main_v1) = _
    after_results_simp
  · change HloOp.result _ _ (Proc.devRef .tc main_v2) = _
    after_results_simp
  · change HloOp.result _ _ (Proc.devRef .tc main_v3) = _
    after_results_simp

/-- The four scalars, one at a time. -/
theorem concat_at (f0 f1 f2 f3 : S_.Idx → BitVec 32) :
    let s := concatenate S4 0 [⟨S1, broadcastInDim S1 ![] bcast_S_S1 f0⟩, ⟨S1, broadcastInDim S1 ![] bcast_S_S1 f1⟩,
        ⟨S1, broadcastInDim S1 ![] bcast_S_S1 f2⟩, ⟨S1, broadcastInDim S1 ![] bcast_S_S1 f3⟩] concatenates_S1_S1_S1_S1_S4_d0
    s (ix1 0) = f0 ix0 ∧ s (ix1 1) = f1 ix0 ∧ s (ix1 2) = f2 ix0 ∧ s (ix1 3) = f3 ix0 := by
  refine ⟨?_, ?_, ?_, ?_⟩ <;> pointwise
/-- The scalars a grid point reads. -/
theorem s_at (c : Dev nD) (t : Fin cfg0.N) (q : Fin 4) :
    (iblk m c 0 t : S4.Idx → BitVec 32) (ix1 q) = (V m c main_v4 : S4.Idx → BitVec 32) (ix1 q) := by
  blk_ext [iblk, (idx t).1]

/-- The four scalars a grid point reads are the four scalar arguments. -/
theorem scal_at (c : Dev nD) (t : Fin cfg0.N) :
    (iblk m c 0 t : S4.Idx → BitVec 32) (ix1 0) = (m ((c.tc : Thread nD τ).loc main_arg1) : S_.Idx → BitVec 32) ix0
    ∧ (iblk m c 0 t : S4.Idx → BitVec 32) (ix1 1) = (m ((c.tc : Thread nD τ).loc main_arg6) : S_.Idx → BitVec 32) ix0
    ∧ (iblk m c 0 t : S4.Idx → BitVec 32) (ix1 2) = (m ((c.tc : Thread nD τ).loc main_arg7) : S_.Idx → BitVec 32) ix0
    ∧ (iblk m c 0 t : S4.Idx → BitVec 32) (ix1 3) = (m ((c.tc : Thread nD τ).loc main_arg8) : S_.Idx → BitVec 32) ix0 := by
  rw [s_at, s_at, s_at, s_at, s_entry]
  exact concat_at _ _ _ _

/-- Sums over equal rows are equal. -/
theorem rowSum_congr {N N' : ℕ} (x x' : S64x4096.Idx → BitVec 8) (z : BitVec 32) (w : (⟨2, ![N, 4096]⟩ : Shape).Idx → BitVec 8)
    (w' : (⟨2, ![N', 4096]⟩ : Shape).Idx → BitVec 8) (b : BitVec 32) (r : Fin 64) (n : Fin N) (n' : Fin N')
    (hx : ∀ k, x (ix2 r k) = x' (ix2 r k)) (hw : ∀ k, w (ix2 n k) = w' (ix2 n' k)) :
    rowSum x z w b r n = rowSum x' z w' b r n' := by
  unfold rowSum
  simp only [hx, hw]

/-- What the kernel returns at row `r` and channel `n`, of its arguments. -/
def value (c : Dev nD) (r : Fin 64) (n : Fin 14336) : BitVec 8 :=
  Cert.Requant.kOut
    (rowSum (fun i => (m ((c.tc : Thread nD τ).loc main_arg0) : S64x1x4096.Idx → BitVec 8) (ix3 (i 0) 0 (i 1)))
      ((m ((c.tc : Thread nD τ).loc main_arg1) : S_.Idx → BitVec 32) ix0)
      (m ((c.tc : Thread nD τ).loc main_arg2) : S14336x4096.Idx → BitVec 8)
      ((m ((c.tc : Thread nD τ).loc main_arg3) : S14336.Idx → BitVec 32) (ix1 n)) r n)
    ((m ((c.tc : Thread nD τ).loc main_arg4) : S14336.Idx → BitVec 32) (ix1 n))
    ((m ((c.tc : Thread nD τ).loc main_arg5) : S14336.Idx → BitVec 32) (ix1 n))
    ((m ((c.tc : Thread nD τ).loc main_arg6) : S_.Idx → BitVec 32) ix0)
    ((m ((c.tc : Thread nD τ).loc main_arg7) : S_.Idx → BitVec 32) ix0)
    ((m ((c.tc : Thread nD τ).loc main_arg8) : S_.Idx → BitVec 32) ix0)

/-- One grid point's block of the output, of the arguments. -/
theorem out_value (c : Dev nD) (t : Fin cfg0.N) (r : Fin 64) (j : Fin 512) (n : Fin 14336) (h : n.val = t.val * 512 + j.val)
    (hz1 : -32641 ≤ ((m ((c.tc : Thread nD τ).loc main_arg1) : S_.Idx → BitVec 32) ix0).toInt)
    (hz2 : ((m ((c.tc : Thread nD τ).loc main_arg1) : S_.Idx → BitVec 32) ix0).toInt ≤ 32639) :
    outsAt0 (F := Ideal) m c t (ix2 r j) = value m c r n := by
  obtain ⟨h0, h1, h2, h3⟩ := scal_at m c t
  rw [out_at m c t r j (by rw [h0]; exact hz1) (by rw [h0]; exact hz2), h0, h1, h2, h3,
    vec_at3 m c t j n h, vec_at4 m c t j n h, vec_at5 m c t j n h]
  unfold value
  refine congrArg (fun q => Cert.Requant.kOut q _ _ _ _ _) ?_
  exact rowSum_congr _ _ _ _ _ _ _ _ _ (fun k => x_at m c t r k) (fun k => w_at m c t j k n h)

/-- The kernel's output array after the run. -/
theorem arr_value (c : Dev nD)
    (hz1 : -32641 ≤ ((m ((c.tc : Thread nD τ).loc main_arg1) : S_.Idx → BitVec 32) ix0).toInt)
    (hz2 : ((m ((c.tc : Thread nD τ).loc main_arg1) : S_.Idx → BitVec 32) ix0).toInt ≤ 32639) :
    (dats (F := Ideal) m 0 c).arrAt 6 (cfgs 0).N = fun i : S64x14336.Idx => value m c (i 0) (i 1) := by
  refine (dats m 0 c).arrAt_eq_of_covers 6 _ (by decide +kernel) fun t hf y => ?_
  blk_simp
  rw [after0_6]
  refine (congrArg (outsAt0 m c t) (eq_ix2 y)).trans ?_
  have h0 : (win0_6.blk t).view.emb y 0 = y 0 := Fin.ext (by blk_simp [(idx t).2.2.2.2.2.2])
  have h1 : ((win0_6.blk t).view.emb y 1).val = t.val * 512 + (y 1).val := by
    blk_simp [(idx t).2.2.2.2.2.2]
  refine (out_value m c t (y 0) (y 1) ((win0_6.blk t).view.emb y 1) h1 hz1 hz2).trans ?_
  exact congrArg (fun q => value m c q ((win0_6.blk t).view.emb y 1)) h0.symm

end Cert.Blocks
-- ==== Proof.KernelRun.lean ====
module

public import proofs.«01_k».proof.Proof.Blocks
public import Idealize.ShloMosaic.Lib.Claim

@[expose] public section

set_option maxRecDepth 16384

noncomputable section

/-! # What the kernel returns -/

namespace Cert.Blocks

open Idealize.ShloMosaic Idealize.ShloMosaic.TcCoe Idealize.SL.Sem
open Cert.KernelIdeal Cert.KernelIdeal.Gen Cert.Body

variable (m : (ℓ : Loc nD τ sig) → Buf (Elt Ideal) ℓ) (g : Dev nD → PrngReg)

/-- The kernel's result: the value at each row and channel. -/
def result (c : Dev nD) : S64x1x14336.Idx → BitVec 8 := fun i => value m c (i 0) (i 2)

/-- The trailing reshape gives each row its middle axis of extent one. -/
theorem cast_out (f : S64x14336.Idx → BitVec 8) (i : S64x1x14336.Idx) :
    shapeCast S64x1x14336 f shapeCasts_S64x14336_S64x1x14336 i = f (ix2 (i 0) (i 2)) := by
  refine shapeCast_apply f _ _ _ ?_
  rw [Shape.rowMajor_val_three, Shape.rowMajor_val_two]
  have h : (i 1).val < 1 := (i 1).isLt
  show (i 0).val * 14336 + (i 2).val = ((i 0).val * 1 + (i 1).val) * 14336 + (i 2).val
  rw [Nat.lt_one_iff.1 h, Nat.mul_one, Nat.add_zero]

/-- Every run of the kernel ends with its result at the value of the arguments, and the arguments as they were. -/
theorem run_result
    (hz : ∀ c : Dev nD, -32641 ≤ ((m ((c.tc : Thread nD τ).loc main_arg1) : S_.Idx → BitVec 32) ix0).toInt
      ∧ ((m ((c.tc : Thread nD τ).loc main_arg1) : S_.Idx → BitVec 32) ix0).toInt ≤ 32639) :
    θ_run (defs (F := Ideal)) (onTc (τ := τ) (main (F := Ideal))) ⟨m, fun _ => 0, g⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  run_from Cert.KernelIdeal.Gen.run_main m g
  · unfold Pipeline.afterTail₀
    rw [List.flatten_cons, List.flatten_nil, List.append_nil]
    simp only [StableHlo.after_cons, StableHlo.after_nil]
    after_results_simp
    have h6 := Pipeline.withArrays_arr (cfgs 0).spec (by decide) c (V0 m c) (fun w => (dats m 0 c).arrAt w (cfgs 0).N) 6
    rw [arr_value m c (hz c).1 (hz c).2] at h6
    funext i
    exact (congrFun (congrArg (fun f : S64x14336.Idx → BitVec 8 => shapeCast S64x1x14336 f shapeCasts_S64x14336_S64x1x14336) h6) i).trans
      (cast_out _ i)
  · exact W_main_arg0 m (dats m) c
  · exact W_main_arg1 m (dats m) c
  · exact W_main_arg3 m (dats m) c
  · exact W_main_arg4 m (dats m) c
  · exact W_main_arg5 m (dats m) c
  · exact W_main_arg6 m (dats m) c
  · exact W_main_arg7 m (dats m) c
  · exact W_main_arg8 m (dats m) c

end Cert.Blocks
-- ==== Proof.RefValue.lean ====
module

public import proofs.«01_k».proof.Proof.Gen.ReferenceIdeal.Run
public import proofs.«01_k».proof.Proof.Requant
public import Idealize.ShloMosaic.Lib.Pointwise

@[expose] public section

set_option maxRecDepth 16384

noncomputable section

/-! # What the reference computes at one element -/

namespace Cert.RefValue

open Idealize.ShloMosaic Idealize.ShloMosaic.TcCoe Cert.ReferenceIdeal Cert.ReferenceIdeal.Gen
open Cert.ReferenceIdeal.Value Cert.Requant

variable (V : Valuation τ sig (Elt Ideal)) (r : Fin 64) (n : Fin 14336)

/-- The multiplier of a channel. -/
abbrev mul : BitVec 32 := (V (Proc.devRef .tc main_arg4) : S14336.Idx → BitVec 32) (ix1 n)
/-- The shift of a channel. -/
abbrev sh : BitVec 32 := (V (Proc.devRef .tc main_arg5) : S14336.Idx → BitVec 32) (ix1 n)
/-- The reference's accumulator at one element. -/
abbrev acc : BitVec 32 := (res_main_v17 V : S64x1x14336.Idx → BitVec 32) (ix3 r 0 n)
/-- Its magnitude. -/
abbrev mag : BitVec 32 := IntOp.absi (acc V r n)

/-- The magnitude of an array, read at an index. -/
theorem absi_at (f g : S64x1x14336.Idx → BitVec 32) (h : f = id (absi g)) (j : S64x1x14336.Idx) :
    f j = IntOp.absi (g j) := by
  subst h; rfl

/-- The magnitude the reference holds is that of its accumulator. -/
theorem v19_at : (res_main_v19 V : S64x1x14336.Idx → BitVec 32) (ix3 r 0 n) = mag V r n :=
  absi_at _ _ (res_main_v19.eq_1 V) _

/-- The multiplier the reference holds is its argument's. -/
theorem v20_at : (res_main_v20 V : S14336.Idx → BitVec 32) (ix1 n) = mul V n := by
  unfold res_main_v20 mul
  simp only [id_eq]

/-- The low half of the magnitude. -/
theorem v22_at : (res_main_v22 V : S64x1x14336.Idx → BitVec 32) (ix3 r 0 n)
    = IntOp.andi (mag V r n) 65535#32 := by
  rw [← v19_at]
  unfold res_main_v22
  generalize res_main_v19 V = a
  pointwise

/-- The high half of the magnitude. -/
theorem v24_at : (res_main_v24 V : S64x1x14336.Idx → BitVec 32) (ix3 r 0 n)
    = IntOp.shrui .host (mag V r n) 16#32 := by
  rw [← v19_at]
  unfold res_main_v24
  generalize res_main_v19 V = a
  pointwise

/-- The low half of the multiplier. -/
theorem v26_at : (res_main_v26 V : S14336.Idx → BitVec 32) (ix1 n) = IntOp.andi (mul V n) 65535#32 := by
  rw [← v20_at]
  unfold res_main_v26
  generalize res_main_v20 V = a
  pointwise

/-- The high half of the multiplier. -/
theorem v28_at : (res_main_v28 V : S14336.Idx → BitVec 32) (ix1 n) = IntOp.shrui .host (mul V n) 16#32 := by
  rw [← v20_at]
  unfold res_main_v28
  generalize res_main_v20 V = a
  pointwise

/-- The product of the low halves. -/
theorem v31_at : (res_main_v31 V : S64x1x14336.Idx → BitVec 32) (ix3 r 0 n)
    = IntOp.muli (IntOp.andi (mag V r n) 65535#32) (IntOp.andi (mul V n) 65535#32) := by
  rw [← v22_at, ← v26_at]
  unfold res_main_v31
  generalize res_main_v22 V = a
  generalize res_main_v26 V = b
  pointwise

/-- The product of the low half of the magnitude with the high half of the multiplier. -/
theorem v34_at : (res_main_v34 V : S64x1x14336.Idx → BitVec 32) (ix3 r 0 n)
    = IntOp.muli (IntOp.andi (mag V r n) 65535#32) (IntOp.shrui .host (mul V n) 16#32) := by
  rw [← v22_at, ← v28_at]
  unfold res_main_v34
  generalize res_main_v22 V = a
  generalize res_main_v28 V = b
  pointwise

/-- The sum of the two middle products. -/
theorem v41_at : (res_main_v41 V : S64x1x14336.Idx → BitVec 32) (ix3 r 0 n) = rMid (mag V r n) (mul V n) := by
  unfold rMid
  rw [← v34_at, ← v24_at, ← v26_at]
  unfold res_main_v41
  generalize res_main_v34 V = a
  generalize res_main_v24 V = b
  generalize res_main_v26 V = d
  pointwise

/-- The low word of the 64-bit product. -/
theorem v46_at : (res_main_v46 V : S64x1x14336.Idx → BitVec 32) (ix3 r 0 n) = rLo (mag V r n) (mul V n) := by
  unfold rLo
  rw [← v31_at, ← v41_at]
  unfold res_main_v46
  generalize res_main_v31 V = a
  generalize res_main_v41 V = b
  pointwise

/-- The high word of the 64-bit product. -/
theorem v55_at : (res_main_v55 V : S64x1x14336.Idx → BitVec 32) (ix3 r 0 n) = rHi (mag V r n) (mul V n) := by
  unfold rHi
  rw [← v34_at, ← v31_at, ← v41_at, ← v46_at, ← v24_at, ← v28_at]
  unfold res_main_v55
  generalize res_main_v24 V = a
  generalize res_main_v28 V = b
  generalize res_main_v34 V = d
  generalize res_main_v31 V = e
  generalize res_main_v41 V = f
  generalize res_main_v46 V = g
  pointwise

/-- The number of bits the product is shifted by. -/
theorem v57_at : (res_main_v57 V : S14336.Idx → BitVec 32) (ix1 n) = IntOp.subi 30#32 (sh V n) := by
  unfold res_main_v57 sh
  generalize V (Proc.devRef .tc main_arg5) = a
  pointwise

/-- Whether the shift is by a word or more. -/
theorem v59_at : (res_main_v59 V : S14336.Idx → BitVec 1) (ix1 n)
    = IntOp.cmpi .sge (IntOp.subi 30#32 (sh V n)) 32#32 := by
  rw [← v57_at]
  unfold res_main_v59
  generalize res_main_v57 V = a
  pointwise

/-- The shift, held between 1 and 31. -/
theorem v61_at : (res_main_v61 V : S14336.Idx → BitVec 32) (ix1 n) = rSmall (sh V n) := by
  unfold rSmall
  rw [← v57_at]
  unfold res_main_v61
  generalize res_main_v57 V = a
  simp only [id_eq]
  pointwise

/-- The shift beyond a word, held between 0 and 31. -/
theorem v65_at : (res_main_v65 V : S14336.Idx → BitVec 32) (ix1 n) = rBig (sh V n) := by
  unfold rBig
  rw [← v57_at]
  unfold res_main_v65
  generalize res_main_v57 V = a
  simp only [id_eq]
  pointwise

/-- The shifted product. -/
theorem v100_at : (res_main_v100 V : S64x1x14336.Idx → BitVec 32) (ix3 r 0 n)
    = rF (mag V r n) (mul V n) (sh V n) := by
  unfold rF
  rw [← v59_at, ← v55_at, ← v46_at, ← v61_at, ← v65_at]
  unfold res_main_v100
  generalize res_main_v59 V = a
  generalize res_main_v55 V = b
  generalize res_main_v46 V = d
  generalize res_main_v61 V = e
  generalize res_main_v65 V = f
  simp only [id_eq]
  pointwise

/-- The array the reference returns, of the contents it starts from. -/
def result : S64x1x14336.Idx → BitVec 8 :=
  trunci 8 (minsi (broadcastInDim S64x1x14336 ![] bcast_S_S64x1x14336 (V (Proc.devRef .tc main_arg8))) (maxsi (broadcastInDim S64x1x14336 ![] bcast_S_S64x1x14336 (V (Proc.devRef .tc main_arg7))) (addi (Host.shrsi (addi (select (cmpi .sge (res_main_v17 V) (broadcastInDim S64x1x14336 ![] bcast_S_S64x1x14336 (constantI S_ 32 0#32))) (res_main_v100 V) (negi (addi (res_main_v100 V) (extui 32 (select (broadcastInDim S64x1x14336 ![2] bcast_S14336_S64x1x14336_2 (res_main_v59 V)) (ori (cmpi .ne (res_main_v46 V) (broadcastInDim S64x1x14336 ![] bcast_S_S64x1x14336 (constantI S_ 32 0#32))) (cmpi .ne (andi (res_main_v55 V) (broadcastInDim S64x1x14336 ![0, 1, 2] bcast_S1x1x14336_S64x1x14336_0_1_2 (broadcastInDim S1x1x14336 ![2] bcast_S14336_S1x1x14336_2 (subi (Host.shli (broadcastInDim S14336 ![] bcast_S_S14336 (constantI S_ 32 1#32)) (res_main_v65 V)) (broadcastInDim S14336 ![] bcast_S_S14336 (constantI S_ 32 1#32)))))) (broadcastInDim S64x1x14336 ![] bcast_S_S64x1x14336 (constantI S_ 32 0#32)))) (cmpi .ne (andi (res_main_v46 V) (broadcastInDim S64x1x14336 ![0, 1, 2] bcast_S1x1x14336_S64x1x14336_0_1_2 (broadcastInDim S1x1x14336 ![2] bcast_S14336_S1x1x14336_2 (subi (Host.shli (broadcastInDim S14336 ![] bcast_S_S14336 (constantI S_ 32 1#32)) (res_main_v61 V)) (broadcastInDim S14336 ![] bcast_S_S14336 (constantI S_ 32 1#32)))))) (broadcastInDim S64x1x14336 ![] bcast_S_S64x1x14336 (constantI S_ 32 0#32)))) natLt_1_32)))) (broadcastInDim S64x1x14336 ![] bcast_S_S64x1x14336 (constantI S_ 32 1#32))) (broadcastInDim S64x1x14336 ![] bcast_S_S64x1x14336 (constantI S_ 32 1#32))) (broadcastInDim S64x1x14336 ![] bcast_S_S64x1x14336 (V (Proc.devRef .tc main_arg6)))))) natLt_8_32

/-- The reference's result at one element is the requantised accumulator. -/
theorem result_at : result V (ix3 r 0 n) = rOut (acc V r n) (mul V n) (sh V n)
    ((V (Proc.devRef .tc main_arg6) : S_.Idx → BitVec 32) ix0)
    ((V (Proc.devRef .tc main_arg7) : S_.Idx → BitVec 32) ix0)
    ((V (Proc.devRef .tc main_arg8) : S_.Idx → BitVec 32) ix0) := by
  unfold rOut rQ rRem
  rw [← v100_at, ← v59_at, ← v46_at, ← v55_at, ← v65_at, ← v61_at]
  unfold result acc
  generalize res_main_v59 V = a
  generalize res_main_v55 V = b
  generalize res_main_v46 V = d
  generalize res_main_v61 V = e
  generalize res_main_v65 V = f
  generalize res_main_v100 V = g
  generalize res_main_v17 V = h
  generalize V (Proc.devRef .tc main_arg6) = y6
  generalize V (Proc.devRef .tc main_arg7) = y7
  generalize V (Proc.devRef .tc main_arg8) = y8
  pointwise

end Cert.RefValue
-- ==== Proof.RefAcc.lean ====
module

public import proofs.«01_k».proof.Proof.RefValue

@[expose] public section

set_option maxRecDepth 16384

noncomputable section

/-! # The reference's accumulator as one exact sum -/

namespace Cert.RefValue

open Idealize.ShloMosaic Idealize.ShloMosaic.TcCoe Cert.ReferenceIdeal Cert.ReferenceIdeal.Gen
open Cert.ReferenceIdeal.Value

/-- A fold of 32-bit words that stand for integers is the word of their sum. -/
theorem fold_addi {ι : Type} (S : Finset ι) (f : ι → BitVec 32) (g : ι → ℤ) (h : ∀ i, f i = BitVec.ofInt 32 (g i)) :
    S.fold IntOp.addi 0#32 f = BitVec.ofInt 32 (∑ i ∈ S, g i) := by
  classical
  induction S using Finset.induction_on with
  | empty => simp
  | insert a S ha ih =>
    rw [Finset.fold_insert ha, ih, Finset.sum_insert ha, h, BitVec.ofInt_add]
    rfl

/-- The array of accumulators the reference forms, of its four operands. -/
def accArr (x : S64x1x4096.Idx → BitVec 8) (z : S_.Idx → BitVec 32) (w : S14336x4096.Idx → BitVec 8)
    (b : S14336.Idx → BitVec 32) : S64x1x14336.Idx → BitVec 32 :=
  addi (subi (Host.reduce IntOp.addi (muli (broadcastInDim S64x1x14336x4096 ![0, 1, 2, 3] bcast_S64x1x1x4096_S64x1x14336x4096_0_1_2_3 (broadcastInDim S64x1x1x4096 ![0, 1, 3] bcast_S64x1x4096_S64x1x1x4096_0_1_3 (extsi 32 x natLt_8_32))) (broadcastInDim S64x1x14336x4096 ![0, 1, 2, 3] bcast_S1x1x14336x4096_S64x1x14336x4096_0_1_2_3 (broadcastInDim S1x1x14336x4096 ![2, 3] bcast_S14336x4096_S1x1x14336x4096_2_3 (extsi 32 w natLt_8_32)))) (constantI S_ 32 0#32) reducesTo_S64x1x14336x4096_S64x1x14336_d3 h_S_) (broadcastInDim S64x1x14336 ![0, 1, 2] bcast_S1x1x14336_S64x1x14336_0_1_2 (broadcastInDim S1x1x14336 ![2] bcast_S14336_S1x1x14336_2 (muli (broadcastInDim S14336 ![] bcast_S_S14336 z) (Host.reduce IntOp.addi (extsi 32 w natLt_8_32) (constantI S_ 32 0#32) reducesTo_S14336x4096_S14336_d1 h_S_))))) (broadcastInDim S64x1x14336 ![0, 1, 2] bcast_S1x1x14336_S64x1x14336_0_1_2 (broadcastInDim S1x1x14336 ![2] bcast_S14336_S1x1x14336_2 b))

/-- The bias plus the word of the exact sum of centred products over the 4096 input channels. -/
def accSum (x : S64x1x4096.Idx → BitVec 8) (z : BitVec 32) (w : S14336x4096.Idx → BitVec 8)
    (b : BitVec 32) (r : Fin 64) (n : Fin 14336) : BitVec 32 :=
  b + BitVec.ofInt 32 (∑ k : Fin 4096, ((x (ix3 r 0 k)).toInt - z.toInt) * (w (ix2 n k)).toInt)

/-- The sum of products at one element. -/
theorem products_at (x : S64x1x4096.Idx → BitVec 8) (w : S14336x4096.Idx → BitVec 8) (r : Fin 64) (n : Fin 14336) :
    Host.reduce IntOp.addi (muli (broadcastInDim S64x1x14336x4096 ![0, 1, 2, 3] bcast_S64x1x1x4096_S64x1x14336x4096_0_1_2_3 (broadcastInDim S64x1x1x4096 ![0, 1, 3] bcast_S64x1x4096_S64x1x1x4096_0_1_3 (extsi 32 x natLt_8_32))) (broadcastInDim S64x1x14336x4096 ![0, 1, 2, 3] bcast_S1x1x14336x4096_S64x1x14336x4096_0_1_2_3 (broadcastInDim S1x1x14336x4096 ![2, 3] bcast_S14336x4096_S1x1x14336x4096_2_3 (extsi 32 w natLt_8_32)))) (constantI S_ 32 0#32) reducesTo_S64x1x14336x4096_S64x1x14336_d3 h_S_ (ix3 r 0 n)
      = BitVec.ofInt 32 (∑ k : Fin 4096, (x (ix3 r 0 k)).toInt * (w (ix2 n k)).toInt) := by
  rw [Host.reduce_eq_fold, Shape.ReducesTo.fold_fiber_r4_a3]
  refine fold_addi _ _ (fun k => (x (ix3 r 0 k)).toInt * (w (ix2 n k)).toInt) fun k => ?_
  rw [BitVec.ofInt_mul]
  pointwise
  rfl

/-- The sum of one output channel's weights. -/
theorem weights_at (w : S14336x4096.Idx → BitVec 8) (n : Fin 14336) :
    Host.reduce IntOp.addi (extsi 32 w natLt_8_32) (constantI S_ 32 0#32) reducesTo_S14336x4096_S14336_d1 h_S_ (ix1 n)
      = BitVec.ofInt 32 (∑ k : Fin 4096, (w (ix2 n k)).toInt) := by
  rw [Host.reduce_eq_fold, Shape.ReducesTo.fold_fiber_r2_a1]
  refine fold_addi _ _ (fun k => (w (ix2 n k)).toInt) fun k => ?_
  pointwise
  rfl

/-- The array of accumulators at one element: the bias plus the exact sum of centred products. -/
theorem accArr_at (x : S64x1x4096.Idx → BitVec 8) (z : S_.Idx → BitVec 32) (w : S14336x4096.Idx → BitVec 8)
    (b : S14336.Idx → BitVec 32) (r : Fin 64) (n : Fin 14336) :
    accArr x z w b (ix3 r 0 n) = accSum x (z ix0) w (b (ix1 n)) r n := by
  have hp := products_at x w r n
  have hw := weights_at w n
  unfold accArr accSum
  revert hp hw
  generalize Host.reduce IntOp.addi (muli _ _) (constantI S_ 32 0#32) reducesTo_S64x1x14336x4096_S64x1x14336_d3 h_S_ = p
  generalize Host.reduce IntOp.addi (extsi 32 w natLt_8_32) _ _ _ = q
  intro hp hw
  have e : addi (subi p (broadcastInDim S64x1x14336 ![0, 1, 2] bcast_S1x1x14336_S64x1x14336_0_1_2 (broadcastInDim S1x1x14336 ![2] bcast_S14336_S1x1x14336_2 (muli (broadcastInDim S14336 ![] bcast_S_S14336 z) q)))) (broadcastInDim S64x1x14336 ![0, 1, 2] bcast_S1x1x14336_S64x1x14336_0_1_2 (broadcastInDim S1x1x14336 ![2] bcast_S14336_S1x1x14336_2 b)) (ix3 r 0 n)
      = p (ix3 r 0 n) - z ix0 * q (ix1 n) + b (ix1 n) := by
    pointwise
    rfl
  rw [e, hp, hw]
  have hs : (∑ k : Fin 4096, ((x (ix3 r 0 k)).toInt - (z ix0).toInt) * (w (ix2 n k)).toInt)
      = (∑ k : Fin 4096, (x (ix3 r 0 k)).toInt * (w (ix2 n k)).toInt) + -((z ix0).toInt * ∑ k : Fin 4096, (w (ix2 n k)).toInt) := by
    rw [Finset.mul_sum, ← sub_eq_add_neg, ← Finset.sum_sub_distrib]
    exact Finset.sum_congr rfl fun k _ => by ring
  rw [hs, BitVec.ofInt_add, BitVec.ofInt_neg, BitVec.ofInt_mul, BitVec.ofInt_toInt, ← BitVec.sub_eq_add_neg, BitVec.add_comm]

variable (V : Valuation τ sig (Elt Ideal)) (r : Fin 64) (n : Fin 14336)

/-- The reference's accumulator is the bias plus the exact sum of centred products. -/
theorem acc_eq : acc V r n = accSum (V (Proc.devRef .tc main_arg0)) ((V (Proc.devRef .tc main_arg1) : S_.Idx → BitVec 32) ix0)
    (V (Proc.devRef .tc main_arg2)) ((V (Proc.devRef .tc main_arg3) : S14336.Idx → BitVec 32) (ix1 n)) r n :=
  (congrFun (res_main_v17.eq_1 V : (res_main_v17 V : S64x1x14336.Idx → BitVec 32) = accArr (V (Proc.devRef .tc main_arg0)) (V (Proc.devRef .tc main_arg1)) (V (Proc.devRef .tc main_arg2)) (V (Proc.devRef .tc main_arg3))) _).trans
    (accArr_at _ _ _ _ _ _)

end Cert.RefValue
-- ==== Proof.Equation.lean ====
module

public import proofs.«01_k».proof.Pre_in_range
public import proofs.«01_k».proof.Proof.KernelRun
public import proofs.«01_k».proof.Proof.RefAcc
public import Idealize.ShloMosaic.Lib.Affine

@[expose] public section

set_option maxRecDepth 16384

noncomputable section

/-! # The kernel's value is the reference's -/

namespace Cert.Equation

open Idealize.ShloMosaic Idealize.ShloMosaic.TcCoe Idealize.SL.Sem

/-- The side condition that the precondition's function states. -/
instance facts : Cert.Pre_in_range.Facts where
  bcast_S_S14336 := by decide

/-- The precondition at one channel: the zero point's range, and a multiplier that is not negative. -/
theorem in_range_at (a0 : IVec Cert.Pre_in_range.S64x1x4096 8) (a1 : IVec Cert.Pre_in_range.S_ 32)
    (a2 : IVec Cert.Pre_in_range.S14336x4096 8) (a3 a4 a5 : IVec Cert.Pre_in_range.S14336 32)
    (a6 a7 a8 : IVec Cert.Pre_in_range.S_ 32)
    (h : Cert.Pre_in_range.fn (F := Ideal) a0 a1 a2 a3 a4 a5 a6 a7 a8 = fun _ => 1#1) (n : Fin 14336) :
    -32641 ≤ (a1 ix0).toInt ∧ (a1 ix0).toInt ≤ 32639 ∧ 0 ≤ (a4 (ix1 n)).toInt := by
  have h1 := congrFun h (ix1 n)
  have h2 : IntOp.andi (IntOp.andi (IntOp.cmpi .sge (a1 ix0) 4294934655#32) (IntOp.cmpi .sle (a1 ix0) 32639#32))
      (IntOp.cmpi .sge (a4 (ix1 n)) 0#32) = 1#1 := by
    rw [← h1]
    dsimp only [Cert.Pre_in_range.fn]
    pointwise
  generalize a1 ix0 = z at *
  generalize a4 (ix1 n) = q at *
  have h3 : z.sle 32639#32 = true ∧ (4294934655#32).sle z = true ∧ (0#32).sle q = true := by
    revert h2
    simp only [IntOp.cmpi, IntOp.andi]
    cases z.sle 32639#32 <;> cases (4294934655#32).sle z <;> cases (0#32).sle q <;> simp
  simp only [BitVec.sle, decide_eq_true_eq] at h3
  exact ⟨h3.2.1, h3.1, h3.2.2⟩

variable (m : (ℓ : Loc Cert.KernelIdeal.nD Cert.KernelIdeal.τ Cert.KernelIdeal.sig) → Buf (Elt Ideal) ℓ)

/-- Where the reference starts from the kernel's arguments, its result is the kernel's. -/
theorem result_eq (V : Valuation Cert.ReferenceIdeal.τ Cert.ReferenceIdeal.sig (Elt Ideal)) (c : Dev Cert.KernelIdeal.nD)
    (hm : ∀ n, 0 ≤ ((m ((c.tc : Thread Cert.KernelIdeal.nD Cert.KernelIdeal.τ).loc Cert.KernelIdeal.main_arg4) : Cert.KernelIdeal.S14336.Idx → BitVec 32) (ix1 n)).toInt)
    (e0 : V (Proc.devRef .tc Cert.ReferenceIdeal.main_arg0) = m ((c.tc : Thread Cert.KernelIdeal.nD Cert.KernelIdeal.τ).loc Cert.KernelIdeal.main_arg0))
    (e1 : V (Proc.devRef .tc Cert.ReferenceIdeal.main_arg1) = m ((c.tc : Thread Cert.KernelIdeal.nD Cert.KernelIdeal.τ).loc Cert.KernelIdeal.main_arg1))
    (e2 : V (Proc.devRef .tc Cert.ReferenceIdeal.main_arg2) = m ((c.tc : Thread Cert.KernelIdeal.nD Cert.KernelIdeal.τ).loc Cert.KernelIdeal.main_arg2))
    (e3 : V (Proc.devRef .tc Cert.ReferenceIdeal.main_arg3) = m ((c.tc : Thread Cert.KernelIdeal.nD Cert.KernelIdeal.τ).loc Cert.KernelIdeal.main_arg3))
    (e4 : V (Proc.devRef .tc Cert.ReferenceIdeal.main_arg4) = m ((c.tc : Thread Cert.KernelIdeal.nD Cert.KernelIdeal.τ).loc Cert.KernelIdeal.main_arg4))
    (e5 : V (Proc.devRef .tc Cert.ReferenceIdeal.main_arg5) = m ((c.tc : Thread Cert.KernelIdeal.nD Cert.KernelIdeal.τ).loc Cert.KernelIdeal.main_arg5))
    (e6 : V (Proc.devRef .tc Cert.ReferenceIdeal.main_arg6) = m ((c.tc : Thread Cert.KernelIdeal.nD Cert.KernelIdeal.τ).loc Cert.KernelIdeal.main_arg6))
    (e7 : V (Proc.devRef .tc Cert.ReferenceIdeal.main_arg7) = m ((c.tc : Thread Cert.KernelIdeal.nD Cert.KernelIdeal.τ).loc Cert.KernelIdeal.main_arg7))
    (e8 : V (Proc.devRef .tc Cert.ReferenceIdeal.main_arg8) = m ((c.tc : Thread Cert.KernelIdeal.nD Cert.KernelIdeal.τ).loc Cert.KernelIdeal.main_arg8)) :
    Cert.RefValue.result V = Cert.Blocks.result m c := by
  funext i
  have hi : i = ix3 (i 0) 0 (i 2) := by
    refine (eq_ix3 i).trans (congrArg (fun q => ix3 (i 0) q (i 2)) (Fin.ext (Nat.lt_one_iff.1 (i 1).isLt)))
  have key : ∀ (r : Fin 64) (n : Fin 14336), Cert.RefValue.result V (ix3 r 0 n) = Cert.Blocks.value m c r n := by
    intro r n
    rw [Cert.RefValue.result_at, Cert.RefValue.acc_eq]
    unfold Cert.RefValue.mul Cert.RefValue.sh
    rw [e0, e1, e2, e3, e4, e5, e6, e7, e8]
    exact (Cert.Requant.kOut_eq_rOut _ _ _ _ _ _ (hm n)).symm
  exact (congrArg (Cert.RefValue.result V) hi).trans (key (i 0) (i 2))

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Equation

@[expose] public section

noncomputable section

namespace Cert.Proof

open Idealize.ShloMosaic Idealize.SL.Sem Cert.Kernel

/-- The kernel runs and leaves its arguments and the counters as they were. -/
theorem frame_p : Cert.quiescent_Kernel := fun m g _ => Cert.Kernel.Gen.frame m g

/-- The kernel over exact values runs and leaves its arguments and the counters as they were. -/
theorem frame_pi : Cert.quiescent_KernelIdeal := fun m g _ => Cert.KernelIdeal.Gen.frame m g

/-- The reference runs and leaves its arguments as they were; it has no counter. -/
theorem frame_ri : Cert.quiescent_ReferenceIdeal := fun m g _ =>
  (θ_run _ _ _).mono (fun r h => ⟨fun c => (h c).2, sem_eq_zero_of_no_sems (by decide) r.2⟩) (Cert.ReferenceIdeal.Value.run m g)

/-- From equal arguments in range, the kernel and the reference return the same array. -/
theorem algebraic : Cert.algebraic_KernelIdeal_ReferenceIdeal_pre_in_range := by
  intro m g m' g' hpre hagree
  have hr := fun c n => Cert.Equation.in_range_at _ _ _ _ _ _ _ _ _ (hpre c) n
  refine ⟨fun c => Cert.Blocks.result m c, Cert.Blocks.run_result m g fun c => ⟨(hr c 0).1, (hr c 0).2.1⟩, ?_⟩
  refine (θ_run _ _ _).mono (fun r h c => ⟨(h c).1.trans ?_, (h c).2⟩) (Cert.ReferenceIdeal.Value.run m' g')
  obtain ⟨e0, e1, e2, e3, e4, e5, e6, e7, e8⟩ := hagree c
  exact Cert.Equation.result_eq m (StableHlo.launchContents m' c) c (fun n => (hr c n).2.2) e0 e1 e2 e3 e4 e5 e6 e7 e8

/-- The certificate's claim. -/
theorem claim : Cert.Claim := ⟨Cert.Kernel.Gen.facts, Cert.KernelIdeal.Gen.facts, Cert.ReferenceIdeal.Gen.facts,
  Cert.Equation.facts, frame_p, frame_pi, fun m g _ => frame_pi m g trivial, frame_ri, fun m g _ => frame_ri m g trivial,
  trivial, algebraic⟩

end Cert.Proof

end
